-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x2560x16384 : Shape := ⟨3, ![4, 2560, 16384]⟩
abbrev S4x2560x4096 : Shape := ⟨3, ![4, 2560, 4096]⟩
abbrev S_ : Shape := ⟨0, ![]⟩

class Facts : Prop where
  bcast_S_S4x2560x16384 : S_.BroadcastsInDim S4x2560x16384 (![] : Fin 0 → Fin S4x2560x16384.rank)
  reducesTo_S4x2560x16384_S_d0_1_2 : S4x2560x16384.ReducesTo [0, 1, 2] S_
  h_S_ : 0 < S_.numel

variable [Facts]

def fn {F : FTy → Type} [FloatOps F] (main_arg0 : FVec F S4x2560x16384 .bf16) (main_arg1 : IVec S4x2560x4096 32) : IVec S_ 1 :=
  let main_v0 : FVec F S4x2560x16384 .bf16 := Host.absf main_arg0
  let main_cst : FVec F S_ .bf16 := constant S_ .bf16 0x0000#16
  let main_v1 : FVec F S4x2560x16384 .bf16 := broadcastInDim S4x2560x16384 ![] bcast_S_S4x2560x16384 main_cst
  let main_v2 : IVec S4x2560x16384 1 := cmpf .oeq main_v0 main_v1
  let main_cst_0 : FVec F S_ .bf16 := constant S_ .bf16 0x0D80#16
  let main_v3 : FVec F S4x2560x16384 .bf16 := broadcastInDim S4x2560x16384 ![] bcast_S_S4x2560x16384 main_cst_0
  let main_v4 : IVec S4x2560x16384 1 := cmpf .oge main_v0 main_v3
  let main_cst_1 : FVec F S_ .bf16 := constant S_ .bf16 0x7180#16
  let main_v5 : FVec F S4x2560x16384 .bf16 := broadcastInDim S4x2560x16384 ![] bcast_S_S4x2560x16384 main_cst_1
  let main_v6 : IVec S4x2560x16384 1 := cmpf .ole main_v0 main_v5
  let main_v7 : IVec S4x2560x16384 1 := andi main_v4 main_v6
  let main_v8 : IVec S4x2560x16384 1 := ori main_v2 main_v7
  let main_c : IVec S_ 1 := constantI S_ 1 1#1
  let main_v9 : IVec S_ 1 := (fun x v => Host.reduce IntOp.andi x v reducesTo_S4x2560x16384_S_d0_1_2 h_S_) main_v8 main_c
  main_v9
-- ==== Kernel.lean ====
abbrev S4x2560x16384 : Shape := ⟨3, ![4, 2560, 16384]⟩
abbrev S4x2560x4096 : Shape := ⟨3, ![4, 2560, 4096]⟩
abbrev S10240x16384 : Shape := ⟨2, ![10240, 16384]⟩
abbrev S10240x4096 : Shape := ⟨2, ![10240, 4096]⟩
abbrev S512x512 : Shape := ⟨2, ![512, 512]⟩
abbrev S_ : Shape := ⟨0, ![]⟩
abbrev S10240x8192 : Shape := ⟨2, ![10240, 8192]⟩
abbrev S10240x128 : Shape := ⟨2, ![10240, 128]⟩
abbrev S10240x2048 : Shape := ⟨2, ![10240, 2048]⟩
abbrev S128x16384 : Shape := ⟨2, ![128, 16384]⟩
abbrev S128x4096 : Shape := ⟨2, ![128, 4096]⟩
abbrev S128x8192 : Shape := ⟨2, ![128, 8192]⟩
abbrev S128x128 : Shape := ⟨2, ![128, 128]⟩
abbrev S128x2048 : Shape := ⟨2, ![128, 2048]⟩
abbrev S8x128 : Shape := ⟨2, ![8, 128]⟩
abbrev S128x512 : Shape := ⟨2, ![128, 512]⟩
abbrev S1x128 : Shape := ⟨2, ![1, 128]⟩
abbrev S128x128x1 : Shape := ⟨3, ![128, 128, 1]⟩
abbrev S32x128 : Shape := ⟨2, ![32, 128]⟩
abbrev S32x128x1 : Shape := ⟨3, ![32, 128, 1]⟩

abbrev nBuf : Space → Nat
  | .hbm => 28
  | .vmem => 14
  | .smem => 0
  | _ => 0

abbrev bufTy : (tb : Table) → Fin (tcTables nBuf tb) → BufTy
  | .hbm, ⟨0, _⟩ => ⟨S4x2560x16384, .bf16⟩
  | .hbm, ⟨1, _⟩ => ⟨S4x2560x4096, .i32⟩
  | .hbm, ⟨2, _⟩ => ⟨S10240x16384, .bf16⟩
  | .hbm, ⟨3, _⟩ => ⟨S10240x4096, .i32⟩
  | .hbm, ⟨4, _⟩ => ⟨S512x512, .i32⟩
  | .hbm, ⟨5, _⟩ => ⟨S512x512, .i32⟩
  | .hbm, ⟨6, _⟩ => ⟨S_, .i32⟩
  | .hbm, ⟨7, _⟩ => ⟨S512x512, .i32⟩
  | .hbm, ⟨8, _⟩ => ⟨S512x512, .i32⟩
  | .hbm, ⟨9, _⟩ => ⟨S_, .i32⟩
  | .hbm, ⟨10, _⟩ => ⟨S512x512, .i32⟩
  | .hbm, ⟨11, _⟩ => ⟨S512x512, .i32⟩
  | .hbm, ⟨12, _⟩ => ⟨S_, .i32⟩
  | .hbm, ⟨13, _⟩ => ⟨S512x512, .i32⟩
  | .hbm, ⟨14, _⟩ => ⟨S512x512, .i32⟩
  | .hbm, ⟨15, _⟩ => ⟨S512x512, .i32⟩
  | .hbm, ⟨16, _⟩ => ⟨S512x512, .i1⟩
  | .hbm, ⟨17, _⟩ => ⟨S_, .f32⟩
  | .hbm, ⟨18, _⟩ => ⟨S_, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S512x512, .bf16⟩
  | .hbm, ⟨23, _⟩ => ⟨S512x512, .bf16⟩
  | .hbm, ⟨24, _⟩ => ⟨S10240x16384, .bf16⟩
  | .hbm, ⟨25, _⟩ => ⟨S10240x8192, .fp8e5m2⟩
  | .hbm, ⟨26, _⟩ => ⟨S10240x128, .f32⟩
  | .hbm, ⟨27, _⟩ => ⟨S10240x2048, .i8⟩
  | .local _ .vmem, ⟨0, _⟩ => ⟨S128x16384, .bf16⟩
  | .local _ .vmem, ⟨1, _⟩ => ⟨S128x16384, .bf16⟩
  | .local _ .vmem, ⟨2, _⟩ => ⟨S128x4096, .i32⟩
  | .local _ .vmem, ⟨3, _⟩ => ⟨S128x4096, .i32⟩
  | .local _ .vmem, ⟨4, _⟩ => ⟨S512x512, .bf16⟩
  | .local _ .vmem, ⟨5, _⟩ => ⟨S512x512, .bf16⟩
  | .local _ .vmem, ⟨6, _⟩ => ⟨S128x16384, .bf16⟩
  | .local _ .vmem, ⟨7, _⟩ => ⟨S128x16384, .bf16⟩
  | .local _ .vmem, ⟨8, _⟩ => ⟨S128x8192, .fp8e5m2⟩
  | .local _ .vmem, ⟨9, _⟩ => ⟨S128x8192, .fp8e5m2⟩
  | .local _ .vmem, ⟨10, _⟩ => ⟨S128x128, .f32⟩
  | .local _ .vmem, ⟨11, _⟩ => ⟨S128x128, .f32⟩
  | .local _ .vmem, ⟨12, _⟩ => ⟨S128x2048, .i8⟩
  | .local _ .vmem, ⟨13, _⟩ => ⟨S128x2048, .i8⟩
  | _, _ => ⟨S4x2560x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![80], ![false]⟩

@[reducible] def k0_t1_loop : Scf.Loop 32 :=
  let c0_i32 : BitVec 32 := 0#32
  let c16_i32 : BitVec 32 := 16#32
  let v3 : BitVec 32 := Scalar.addi c0_i32 c16_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c2_i32 : BitVec 32 := 2#32
  let v4 : BitVec 32 := Scalar.muli arg9 c2_i32
  let c0_i32_2 : BitVec 32 := 0#32
  let v5 : BitVec 32 := Scalar.addi v4 c0_i32_2
  let c512_i32 : BitVec 32 := 512#32
  let v6 : BitVec 32 := Scalar.muli v5 c512_i32
  v6
def k0_mult2 (k0_t1 : Fin k0_t1_loop.trips) : BitVec 32 :=
  let c0_i32 : BitVec 32 := 0#32
  let c1_i32 : BitVec 32 := 1#32
  let arg9 : BitVec 32 := Scf.iv c0_i32 c1_i32 k0_t1
  let c2_i32 : BitVec 32 := 2#32
  let v4 : BitVec 32 := Scalar.muli arg9 c2_i32
  let c0_i32_2 : BitVec 32 := 0#32
  let v5 : BitVec 32 := Scalar.addi v4 c0_i32_2
  let c128_i32 : BitVec 32 := 128#32
  let v8 : BitVec 32 := Scalar.muli v5 c128_i32
  v8
def k0_off1 (k0_t1 : Fin k0_t1_loop.trips) (c0_i32_2 : BitVec 32) : Fin 2 → Nat :=
  let c0_3 : Index := 0#32
  let c0_i32 : BitVec 32 := 0#32
  let c1_i32 : BitVec 32 := 1#32
  let arg9 : BitVec 32 := Scf.iv c0_i32 c1_i32 k0_t1
  let c2_i32 : BitVec 32 := 2#32
  let v4 : BitVec 32 := Scalar.muli arg9 c2_i32
  let v5 : BitVec 32 := Scalar.addi v4 c0_i32_2
  let c512_i32 : BitVec 32 := 512#32
  let v6 : BitVec 32 := Scalar.muli v5 c512_i32
  let v7 : BitVec 32 := v6
  let v10 : Index := Scalar.indexCast v7
  ![0, v10.toNat]
def k0_off2 (k0_t1 : Fin k0_t1_loop.trips) (c0_i32_2 : BitVec 32) : Fin 2 → Nat :=
  let c0_7 : Index := 0#32
  let c0_i32 : BitVec 32 := 0#32
  let c1_i32 : BitVec 32 := 1#32
  let arg9 : BitVec 32 := Scf.iv c0_i32 c1_i32 k0_t1
  let c2_i32 : BitVec 32 := 2#32
  let v4 : BitVec 32 := Scalar.muli arg9 c2_i32
  let v5 : BitVec 32 := Scalar.addi v4 c0_i32_2
  let c128_i32 : BitVec 32 := 128#32
  let v8 : BitVec 32 := Scalar.muli v5 c128_i32
  let v9 : BitVec 32 := v8
  let v20 : Index := Scalar.indexCast v9
  ![0, v20.toNat]
def k0_off3 (k0_t1 : Fin k0_t1_loop.trips) (c0_i32_2 : BitVec 32) (c0_i32_86 : BitVec 32) : Fin 2 → Nat :=
  let c0_87 : Index := 0#32
  let c0_i32 : BitVec 32 := 0#32
  let c1_i32 : BitVec 32 := 1#32
  let arg9 : BitVec 32 := Scf.iv c0_i32 c1_i32 k0_t1
  let c2_i32 : BitVec 32 := 2#32
  let v4 : BitVec 32 := Scalar.muli arg9 c2_i32
  let v5 : BitVec 32 := Scalar.addi v4 c0_i32_2
  let c512_i32 : BitVec 32 := 512#32
  let v6 : BitVec 32 := Scalar.muli v5 c512_i32
  let v7 : BitVec 32 := v6
  let v319 : BitVec 32 := Scalar.addi v7 c0_i32_86
  let v320 : Index := Scalar.indexCast v319
  ![0, v320.toNat]
def k0_mult3 (k0_t1 : Fin k0_t1_loop.trips) : BitVec 32 :=
  let c0_i32 : BitVec 32 := 0#32
  let c1_i32 : BitVec 32 := 1#32
  let arg9 : BitVec 32 := Scf.iv c0_i32 c1_i32 k0_t1
  let c2_i32 : BitVec 32 := 2#32
  let v4 : BitVec 32 := Scalar.muli arg9 c2_i32
  let c0_i32_2 : BitVec 32 := 0#32
  let v5 : BitVec 32 := Scalar.addi v4 c0_i32_2
  let c256_i32_106 : BitVec 32 := 256#32
  let v398 : BitVec 32 := Scalar.muli v5 c256_i32_106
  v398
def k0_off4 (k0_t1 : Fin k0_t1_loop.trips) (c0_i32_2 : BitVec 32) (c0_i32_107 : BitVec 32) : Fin 2 → Nat :=
  let c0_108 : Index := 0#32
  let c0_i32 : BitVec 32 := 0#32
  let c1_i32 : BitVec 32 := 1#32
  let arg9 : BitVec 32 := Scf.iv c0_i32 c1_i32 k0_t1
  let c2_i32 : BitVec 32 := 2#32
  let v4 : BitVec 32 := Scalar.muli arg9 c2_i32
  let v5 : BitVec 32 := Scalar.addi v4 c0_i32_2
  let c256_i32_106 : BitVec 32 := 256#32
  let v398 : BitVec 32 := Scalar.muli v5 c256_i32_106
  let v399 : BitVec 32 := v398
  let v400 : BitVec 32 := Scalar.addi v399 c0_i32_107
  let v401 : Index := Scalar.indexCast v400
  ![0, v401.toNat]
def k0_mult4 (k0_t1 : Fin k0_t1_loop.trips) : BitVec 32 :=
  let c0_i32 : BitVec 32 := 0#32
  let c1_i32 : BitVec 32 := 1#32
  let arg9 : BitVec 32 := Scf.iv c0_i32 c1_i32 k0_t1
  let c2_i32 : BitVec 32 := 2#32
  let v4 : BitVec 32 := Scalar.muli arg9 c2_i32
  let c0_i32_2 : BitVec 32 := 0#32
  let v5 : BitVec 32 := Scalar.addi v4 c0_i32_2
  let c256_i32_117 : BitVec 32 := 256#32
  let v429 : BitVec 32 := Scalar.muli v5 c256_i32_117
  v429
def k0_mult5 (k0_t1 : Fin k0_t1_loop.trips) : BitVec 32 :=
  let c0_i32 : BitVec 32 := 0#32
  let c1_i32 : BitVec 32 := 1#32
  let arg9 : BitVec 32 := Scf.iv c0_i32 c1_i32 k0_t1
  let c2_i32_128 : BitVec 32 := 2#32
  let v468 : BitVec 32 := Scalar.muli arg9 c2_i32_128
  let c1_i32_129 : BitVec 32 := 1#32
  let v469 : BitVec 32 := Scalar.addi v468 c1_i32_129
  let c512_i32_130 : BitVec 32 := 512#32
  let v470 : BitVec 32 := Scalar.muli v469 c512_i32_130
  v470
def k0_mult6 (k0_t1 : Fin k0_t1_loop.trips) : BitVec 32 :=
  let c0_i32 : BitVec 32 := 0#32
  let c1_i32 : BitVec 32 := 1#32
  let arg9 : BitVec 32 := Scf.iv c0_i32 c1_i32 k0_t1
  let c2_i32_128 : BitVec 32 := 2#32
  let v468 : BitVec 32 := Scalar.muli arg9 c2_i32_128
  let c1_i32_129 : BitVec 32 := 1#32
  let v469 : BitVec 32 := Scalar.addi v468 c1_i32_129
  let c128_i32_131 : BitVec 32 := 128#32
  let v472 : BitVec 32 := Scalar.muli v469 c128_i32_131
  v472
def k0_mult7 (k0_t1 : Fin k0_t1_loop.trips) : BitVec 32 :=
  let c0_i32 : BitVec 32 := 0#32
  let c1_i32 : BitVec 32 := 1#32
  let arg9 : BitVec 32 := Scf.iv c0_i32 c1_i32 k0_t1
  let c2_i32_128 : BitVec 32 := 2#32
  let v468 : BitVec 32 := Scalar.muli arg9 c2_i32_128
  let c1_i32_129 : BitVec 32 := 1#32
  let v469 : BitVec 32 := Scalar.addi v468 c1_i32_129
  let c256_i32_242 : BitVec 32 := 256#32
  let v862 : BitVec 32 := Scalar.muli v469 c256_i32_242
  v862
def k0_mult8 (k0_t1 : Fin k0_t1_loop.trips) : BitVec 32 :=
  let c0_i32 : BitVec 32 := 0#32
  let c1_i32 : BitVec 32 := 1#32
  let arg9 : BitVec 32 := Scf.iv c0_i32 c1_i32 k0_t1
  let c2_i32_128 : BitVec 32 := 2#32
  let v468 : BitVec 32 := Scalar.muli arg9 c2_i32_128
  let c1_i32_129 : BitVec 32 := 1#32
  let v469 : BitVec 32 := Scalar.addi v468 c1_i32_129
  let c256_i32_253 : BitVec 32 := 256#32
  let v893 : BitVec 32 := Scalar.muli v469 c256_i32_253
  v893
def k0_mult9 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_283 : BitVec 32 := 128#32
  let v969 : BitVec 32 := Scalar.muli arg9 c128_i32_283
  v969
def k0_off5 (k0_t1 : Fin k0_t1_loop.trips) : Fin 2 → Nat :=
  let c0_284 : Index := 0#32
  let c0_i32 : BitVec 32 := 0#32
  let c1_i32 : BitVec 32 := 1#32
  let arg9 : BitVec 32 := Scf.iv c0_i32 c1_i32 k0_t1
  let c128_i32_283 : BitVec 32 := 128#32
  let v969 : BitVec 32 := Scalar.muli arg9 c128_i32_283
  let v970 : BitVec 32 := v969
  let v971 : Index := Scalar.indexCast v970
  ![0, v971.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x16384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x8192 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x2560x16384 : Shape := ⟨3, ![4, 2560, 16384]⟩
abbrev S4x2560x4096 : Shape := ⟨3, ![4, 2560, 4096]⟩
abbrev S10240x16384 : Shape := ⟨2, ![10240, 16384]⟩
abbrev S10240x4096 : Shape := ⟨2, ![10240, 4096]⟩
abbrev S10240x8192 : Shape := ⟨2, ![10240, 8192]⟩
abbrev S10240x128 : Shape := ⟨2, ![10240, 128]⟩
abbrev S10240x2048 : Shape := ⟨2, ![10240, 2048]⟩
abbrev S10240x4096x4 : Shape := ⟨3, ![10240, 4096, 4]⟩
abbrev S10240x4096x1 : Shape := ⟨3, ![10240, 4096, 1]⟩
abbrev S10240x4096x2 : Shape := ⟨3, ![10240, 4096, 2]⟩
abbrev S10240x128x64 : Shape := ⟨3, ![10240, 128, 64]⟩
abbrev S10240x128x254 : Shape := ⟨3, ![10240, 128, 254]⟩
abbrev S10240x128x1 : Shape := ⟨3, ![10240, 128, 1]⟩
abbrev S10240x2048x2 : Shape := ⟨3, ![10240, 2048, 2]⟩
abbrev S10240x2048x1 : Shape := ⟨3, ![10240, 2048, 1]⟩

abbrev nBuf : Space → Nat
  | .hbm => 8
  | .vmem => 6
  | .smem => 0
  | _ => 0

abbrev bufTy : (tb : Table) → Fin (tcTables nBuf tb) → BufTy
  | .hbm, ⟨0, _⟩ => ⟨S4x2560x16384, .bf16⟩
  | .hbm, ⟨1, _⟩ => ⟨S4x2560x4096, .i32⟩
  | .hbm, ⟨2, _⟩ => ⟨S10240x16384, .bf16⟩
  | .hbm, ⟨3, _⟩ => ⟨S10240x4096, .i32⟩
  | .hbm, ⟨4, _⟩ => ⟨S10240x16384, .bf16⟩
  | .hbm, ⟨5, _⟩ => ⟨S10240x8192, .fp8e5m2⟩
  | .hbm, ⟨6, _⟩ => ⟨S10240x128, .f32⟩
  | .hbm, ⟨7, _⟩ => ⟨S10240x2048, .i8⟩
  | .local _ .vmem, ⟨0, _⟩ => ⟨S10240x16384, .bf16⟩
  | .local _ .vmem, ⟨1, _⟩ => ⟨S10240x4096, .i32⟩
  | .local _ .vmem, ⟨2, _⟩ => ⟨S10240x16384, .bf16⟩
  | .local _ .vmem, ⟨3, _⟩ => ⟨S10240x8192, .fp8e5m2⟩
  | .local _ .vmem, ⟨4, _⟩ => ⟨S10240x128, .f32⟩
  | .local _ .vmem, ⟨5, _⟩ => ⟨S10240x2048, .i8⟩
  | _, _ => ⟨S4x2560x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S10240x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10240x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10240x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10240x8192 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10240x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10240x2048 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.PrintedRun.lean ====
/- KernelRun's statements for the kernel read with machine floats, whose program is a text of its own.
   The run of its body at one grid point, with the pieces it leaves in each of its four output buffers named.  A trip of
   the body's loop reads one of the buffers it writes (the scales, which it accumulates), so the generated piece lists are
   functions of what all four buffers held at loop entry; `pb_entry` says that they depend on the scales' buffer alone,
   and `kernelRun0_A` states the run with lists that name no unknown contents. -/
module

public import proofs.«01_k».proof.Proof.Gen.Kernel.Frame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- One trip's pieces depend on the contents of the scales' buffer alone, not on those of the other three outputs. -/
theorem tripL_entry (𝒱 : Variants) (c : Dev nD) (bd : Option 𝒱.V) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole) (v0 : IVec S8x128 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (k : Fin k0_t1_loop.trips)
    (f5 f5' : BufTy.Contents (Elt F) arg5.view.ty) (f6 f6' : BufTy.Contents (Elt F) arg6.view.ty) (f7 : BufTy.Contents (Elt F) arg7.view.ty) (f8 f8' : BufTy.Contents (Elt F) arg8.view.ty) :
    tripL_k0_t1 (F := F) 𝒱 c bd i arg1 harg1 arg2 harg2 arg3 harg3 arg4 harg4 arg5 harg5 arg6 harg6 arg7 harg7 arg8 harg8 v0 X_arg1 X_arg2 X_arg3 X_arg4 k f5 f6 f7 f8 = tripL_k0_t1 (F := F) 𝒱 c bd i arg1 harg1 arg2 harg2 arg3 harg3 arg4 harg4 arg5 harg5 arg6 harg6 arg7 harg7 arg8 harg8 v0 X_arg1 X_arg2 X_arg3 X_arg4 k f5' f6' f7 f8' := by
  sl_kernel_rfl

/-- The pieces of the trips before `k` depend, of the contents at loop entry, on those of the scales' buffer alone. -/
theorem pb_entry (𝒱 : Variants) (c : Dev nD) (bd : Option 𝒱.V) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole) (v0 : IVec S8x128 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty)
    (G5 G5' : BufTy.Contents (Elt F) arg5.view.ty) (G6 G6' : BufTy.Contents (Elt F) arg6.view.ty) (G7 : BufTy.Contents (Elt F) arg7.view.ty) (G8 G8' : BufTy.Contents (Elt F) arg8.view.ty) (k : ℕ) :
    pb_k0_t1 (F := F) 𝒱 c bd i arg1 harg1 arg2 harg2 arg3 harg3 arg4 harg4 arg5 harg5 arg6 harg6 arg7 harg7 arg8 harg8 v0 X_arg1 X_arg2 X_arg3 X_arg4 G5 G6 G7 G8 k = pb_k0_t1 (F := F) 𝒱 c bd i arg1 harg1 arg2 harg2 arg3 harg3 arg4 harg4 arg5 harg5 arg6 harg6 arg7 harg7 arg8 harg8 v0 X_arg1 X_arg2 X_arg3 X_arg4 G5' G6' G7 G8' k := by
  induction k with
  | zero => rfl
  | succ k ih =>
    by_cases hk : k < k0_t1_loop.trips
    · have h1 := pb_k0_t1_succ (F := F) 𝒱 c bd i arg1 harg1 arg2 harg2 arg3 harg3 arg4 harg4 arg5 harg5 arg6 harg6 arg7 harg7 arg8 harg8 v0 X_arg1 X_arg2 X_arg3 X_arg4 G5 G6 G7 G8 ⟨k, hk⟩
      have h2 := pb_k0_t1_succ (F := F) 𝒱 c bd i arg1 harg1 arg2 harg2 arg3 harg3 arg4 harg4 arg5 harg5 arg6 harg6 arg7 harg7 arg8 harg8 v0 X_arg1 X_arg2 X_arg3 X_arg4 G5' G6' G7 G8' ⟨k, hk⟩
      dsimp only at h1 h2
      rw [h1, h2, ih]
      generalize pb_k0_t1 (F := F) 𝒱 c bd i arg1 harg1 arg2 harg2 arg3 harg3 arg4 harg4 arg5 harg5 arg6 harg6 arg7 harg7 arg8 harg8 v0 X_arg1 X_arg2 X_arg3 X_arg4 G5' G6' G7 G8' k = p
      exact congrArg (fun q : List (View.Piece (Elt F) S128x16384 .bf16) × List (View.Piece (Elt F) S128x8192 .fp8e5m2) × List (View.Piece (Elt F) S128x128 .f32) × List (View.Piece (Elt F) S128x2048 .i8) => (q.1 ++ p.1, q.2.1 ++ p.2.1, q.2.2.1 ++ p.2.2.1, q.2.2.2 ++ p.2.2.2))
        (tripL_entry 𝒱 c bd i arg1 harg1 arg2 harg2 arg3 harg3 arg4 harg4 arg5 harg5 arg6 harg6 arg7 harg7 arg8 harg8 v0 X_arg1 X_arg2 X_arg3 X_arg4 ⟨k, hk⟩ (arg5.view.writes (Elt F) G5 p.1) (arg5.view.writes (Elt F) G5' p.1) (arg6.view.writes (Elt F) G6 p.2.1) (arg6.view.writes (Elt F) G6' p.2.1) (arg7.view.writes (Elt F) G7 p.2.2.1) (arg8.view.writes (Elt F) G8 p.2.2.2) (arg8.view.writes (Elt F) G8' p.2.2.2))
    · rw [pb_k0_t1.eq_2, pb_k0_t1.eq_2]
      unfold pb_k0_t1Step
      rw [dif_neg hk, dif_neg hk, ih]

/-- The pieces of the trips before `k`, the outputs other than the scales starting from contents nobody reads. -/
def pieces (𝒱 : Variants) (c : Dev nD) (bd : Option 𝒱.V) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole) (v0 : IVec S8x128 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (G7 : BufTy.Contents (Elt F) arg7.view.ty) (k : ℕ) : List (View.Piece (Elt F) S128x16384 .bf16) × List (View.Piece (Elt F) S128x8192 .fp8e5m2) × List (View.Piece (Elt F) S128x128 .f32) × List (View.Piece (Elt F) S128x2048 .i8) :=
  pb_k0_t1 (F := F) 𝒱 c bd i arg1 harg1 arg2 harg2 arg3 harg3 arg4 harg4 arg5 harg5 arg6 harg6 arg7 harg7 arg8 harg8 v0 X_arg1 X_arg2 X_arg3 X_arg4 arg5.view.junk arg6.view.junk G7 arg8.view.junk k

/-- The pieces of the trips before `k` are `pieces`, whatever the buffers other than the scales held. -/
theorem pb_eq_pieces (𝒱 : Variants) (c : Dev nD) (bd : Option 𝒱.V) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole) (v0 : IVec S8x128 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty)
    (G5 : BufTy.Contents (Elt F) arg5.view.ty) (G6 : BufTy.Contents (Elt F) arg6.view.ty) (G7 : BufTy.Contents (Elt F) arg7.view.ty) (G8 : BufTy.Contents (Elt F) arg8.view.ty) (k : ℕ) :
    pb_k0_t1 (F := F) 𝒱 c bd i arg1 harg1 arg2 harg2 arg3 harg3 arg4 harg4 arg5 harg5 arg6 harg6 arg7 harg7 arg8 harg8 v0 X_arg1 X_arg2 X_arg3 X_arg4 G5 G6 G7 G8 k = pieces (F := F) 𝒱 c bd i arg1 harg1 arg2 harg2 arg3 harg3 arg4 harg4 arg5 harg5 arg6 harg6 arg7 harg7 arg8 harg8 v0 X_arg1 X_arg2 X_arg3 X_arg4 G7 k :=
  pb_entry 𝒱 c bd i arg1 harg1 arg2 harg2 arg3 harg3 arg4 harg4 arg5 harg5 arg6 harg6 arg7 harg7 arg8 harg8 v0 X_arg1 X_arg2 X_arg3 X_arg4 _ _ _ _ _ _ _ k

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole)
    (x0 : Vec F S128x16384 .bf16) (x1 : Vec F S128x4096 .i32) (x2 : Vec F S512x512 .bf16) (x3 : Vec F S512x512 .bf16) :
    Σ' (L4 : List (View.Piece (Elt F) S128x16384 .bf16)), Σ' (L5 : List (View.Piece (Elt F) S128x8192 .fp8e5m2)), Σ' (L6 : List (View.Piece (Elt F) S128x128 .f32)), { L7 : List (View.Piece (Elt F) S128x2048 .i8) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc0_mvue24 i arg1 harg1 arg2 harg2 arg3 harg3 arg4 harg4 arg5 harg5 arg6 harg6 arg7 harg7 arg8 harg8) K } := by
  refine ⟨?_, ?_, ?_, ?_, fun E K => ?run⟩
  case run =>
    simp only [cc0_mvue24_eq_skeleton]; unfold cc0_mvue24_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3
    sl_exec
    sl_step
    simp only [pb_eq_pieces]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact H7

end Cert.Kernel.Gen

end
-- ==== Proof.PrintedFrame.lean ====
/- KernelFrame's statements for the kernel read with machine floats, whose program is a text of its own.
   The certificate of its run: what its body leaves in the four output buffers at every grid point (`outsAt0`), the
   pipeline's proof data, the run of the whole program (`run_main`) and the frame claim (`frame`). -/
module

public import proofs.«01_k».proof.Proof.PrintedRun
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The run's pieces for output 4 tile its block (128 stores of `S128x128`), so they cover it. -/
theorem cover0_A_4 (c : Dev nD) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole)
    (x0 : Vec F S128x16384 .bf16) (x1 : Vec F S128x4096 .i32) (x2 : Vec F S512x512 .bf16) (x3 : Vec F S512x512 .bf16) (y : S128x16384.Idx) :
    ∃ pc ∈ (kernelRun0_A c i arg1 harg1 arg2 harg2 arg3 harg3 arg4 harg4 arg5 harg5 arg6 harg6 arg7 harg7 arg8 harg8 x0 x1 x2 x3).1, y ∈ pc.1.set :=
  View.cover_of_tiledL (kernelRun0_A c i arg1 harg1 arg2 harg2 arg3 harg3 arg4 harg4 arg5 harg5 arg6 harg6 arg7 harg7 arg8 harg8 x0 x1 x2 x3).1 S128x128.size (by sl_kernel_rfl) y

/-- What the run leaves in output 4's staging buffer: its pieces read back over junk. -/
def out0_A_4 (c : Dev nD) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole)
    (x0 : Vec F S128x16384 .bf16) (x1 : Vec F S128x4096 .i32) (x2 : Vec F S512x512 .bf16) (x3 : Vec F S512x512 .bf16) : Vec F S128x16384 .bf16 :=
  VO0_4.read (Elt F) (VO0_4.writes (Elt F) VO0_4.junk (kernelRun0_A c i arg1 harg1 arg2 harg2 arg3 harg3 arg4 harg4 arg5 harg5 arg6 harg6 arg7 harg7 arg8 harg8 x0 x1 x2 x3).1)

/-- The run's pieces for output 5 tile its block (64 stores of `S128x128`), so they cover it. -/
theorem cover0_A_5 (c : Dev nD) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole)
    (x0 : Vec F S128x16384 .bf16) (x1 : Vec F S128x4096 .i32) (x2 : Vec F S512x512 .bf16) (x3 : Vec F S512x512 .bf16) (y : S128x8192.Idx) :
    ∃ pc ∈ (kernelRun0_A c i arg1 harg1 arg2 harg2 arg3 harg3 arg4 harg4 arg5 harg5 arg6 harg6 arg7 harg7 arg8 harg8 x0 x1 x2 x3).2.1, y ∈ pc.1.set :=
  View.cover_of_tiledL (kernelRun0_A c i arg1 harg1 arg2 harg2 arg3 harg3 arg4 harg4 arg5 harg5 arg6 harg6 arg7 harg7 arg8 harg8 x0 x1 x2 x3).2.1 S128x128.size (by sl_kernel_rfl) y

/-- What the run leaves in output 5's staging buffer: its pieces read back over junk. -/
def out0_A_5 (c : Dev nD) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole)
    (x0 : Vec F S128x16384 .bf16) (x1 : Vec F S128x4096 .i32) (x2 : Vec F S512x512 .bf16) (x3 : Vec F S512x512 .bf16) : Vec F S128x8192 .fp8e5m2 :=
  VO0_5.read (Elt F) (VO0_5.writes (Elt F) VO0_5.junk (kernelRun0_A c i arg1 harg1 arg2 harg2 arg3 harg3 arg4 harg4 arg5 harg5 arg6 harg6 arg7 harg7 arg8 harg8 x0 x1 x2 x3).2.1)

/-- The run's pieces for output 6 tile its block (33 stores of `S128x128`), so they cover it. -/
theorem cover0_A_6 (c : Dev nD) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole)
    (x0 : Vec F S128x16384 .bf16) (x1 : Vec F S128x4096 .i32) (x2 : Vec F S512x512 .bf16) (x3 : Vec F S512x512 .bf16) (y : S128x128.Idx) :
    ∃ pc ∈ (kernelRun0_A c i arg1 harg1 arg2 harg2 arg3 harg3 arg4 harg4 arg5 harg5 arg6 harg6 arg7 harg7 arg8 harg8 x0 x1 x2 x3).2.2.1, y ∈ pc.1.set :=
  View.cover_of_tiledL (kernelRun0_A c i arg1 harg1 arg2 harg2 arg3 harg3 arg4 harg4 arg5 harg5 arg6 harg6 arg7 harg7 arg8 harg8 x0 x1 x2 x3).2.2.1 S128x128.size (by sl_kernel_rfl) y

/-- What the run leaves in output 6's staging buffer: its pieces read back over junk. -/
def out0_A_6 (c : Dev nD) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole)
    (x0 : Vec F S128x16384 .bf16) (x1 : Vec F S128x4096 .i32) (x2 : Vec F S512x512 .bf16) (x3 : Vec F S512x512 .bf16) : Vec F S128x128 .f32 :=
  VO0_6.read (Elt F) (VO0_6.writes (Elt F) VO0_6.junk (kernelRun0_A c i arg1 harg1 arg2 harg2 arg3 harg3 arg4 harg4 arg5 harg5 arg6 harg6 arg7 harg7 arg8 harg8 x0 x1 x2 x3).2.2.1)

/-- The run's pieces for output 7 tile its block (16 stores of `S128x128`), so they cover it. -/
theorem cover0_A_7 (c : Dev nD) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole)
    (x0 : Vec F S128x16384 .bf16) (x1 : Vec F S128x4096 .i32) (x2 : Vec F S512x512 .bf16) (x3 : Vec F S512x512 .bf16) (y : S128x2048.Idx) :
    ∃ pc ∈ (kernelRun0_A c i arg1 harg1 arg2 harg2 arg3 harg3 arg4 harg4 arg5 harg5 arg6 harg6 arg7 harg7 arg8 harg8 x0 x1 x2 x3).2.2.2.1, y ∈ pc.1.set :=
  View.cover_of_tiledL (kernelRun0_A c i arg1 harg1 arg2 harg2 arg3 harg3 arg4 harg4 arg5 harg5 arg6 harg6 arg7 harg7 arg8 harg8 x0 x1 x2 x3).2.2.2.1 S128x128.size (by sl_kernel_rfl) y

/-- What the run leaves in output 7's staging buffer: its pieces read back over junk. -/
def out0_A_7 (c : Dev nD) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole)
    (x0 : Vec F S128x16384 .bf16) (x1 : Vec F S128x4096 .i32) (x2 : Vec F S512x512 .bf16) (x3 : Vec F S512x512 .bf16) : Vec F S128x2048 .i8 :=
  VO0_7.read (Elt F) (VO0_7.writes (Elt F) VO0_7.junk (kernelRun0_A c i arg1 harg1 arg2 harg2 arg3 harg3 arg4 harg4 arg5 harg5 arg6 harg6 arg7 harg7 arg8 harg8 x0 x1 x2 x3).2.2.2.1)

/-! ## What the outputs hold after each point -/

/-- What the outputs' staging buffers hold after the body at point `t` (as a tuple, in window order): the run's contents at
    the point's memrefs and input blocks. -/
def outsAt0 (c : Dev nD) (t : Fin cfg0.N) : Vec F S128x16384 .bf16 × Vec F S128x8192 .fp8e5m2 × Vec F S128x128 .f32 × Vec F S128x2048 .i8 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t).1
    | ⟨5, _⟩ => (outsAt0 m c t).2.1
    | ⟨6, _⟩ => (outsAt0 m c t).2.2.1
    | ⟨7, _⟩ => (outsAt0 m c t).2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What the body leaves in the second input's window. -/
theorem after0_1 (c : Dev nD) (t : Fin cfg0.N) : (dats m 0 c).after 1 t = iblk m c 1 t := by dsimp only [dats]
/-- What the body leaves in the third input's window. -/
theorem after0_2 (c : Dev nD) (t : Fin cfg0.N) : (dats m 0 c).after 2 t = iblk m c 2 t := by dsimp only [dats]
/-- What the body leaves in the fourth input's window. -/
theorem after0_3 (c : Dev nD) (t : Fin cfg0.N) : (dats m 0 c).after 3 t = iblk m c 3 t := by dsimp only [dats]
/-- What the body leaves in the window of the dense result. -/
theorem after0_4 (c : Dev nD) (t : Fin cfg0.N) : (dats m 0 c).after 4 t = (outsAt0 m c t).1 := by dsimp only [dats]
/-- What the body leaves in the window of the codes. -/
theorem after0_5 (c : Dev nD) (t : Fin cfg0.N) : (dats m 0 c).after 5 t = (outsAt0 m c t).2.1 := by dsimp only [dats]
/-- What the body leaves in the window of the scales. -/
theorem after0_6 (c : Dev nD) (t : Fin cfg0.N) : (dats m 0 c).after 6 t = (outsAt0 m c t).2.2.1 := by dsimp only [dats]
/-- What the body leaves in the window of the packed channel numbers. -/
theorem after0_7 (c : Dev nD) (t : Fin cfg0.N) : (dats m 0 c).after 7 t = (outsAt0 m c t).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The second input's staging buffer holds its block at every point. -/
theorem before0_1 (c : Dev nD) (t : Fin cfg0.N) (d) : (dats m 0 c).before 1 t d = iblk m c 1 t :=
  before0_1_of m (dats m 0 c) (A_eq m c 1) (after0_1 m c) t d
/-- The third input's staging buffer holds its block at every point. -/
theorem before0_2 (c : Dev nD) (t : Fin cfg0.N) (d) : (dats m 0 c).before 2 t d = iblk m c 2 t :=
  before0_2_of m (dats m 0 c) (A_eq m c 2) (after0_2 m c) t d
/-- The fourth input's staging buffer holds its block at every point. -/
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  unfold outsAt0
  unfold out0_A_4 out0_A_5 out0_A_6 out0_A_7; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ (iblk m c 0 t) (iblk m c 1 t) (iblk m c 2 t) (iblk m c 3 t)).2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, ⟨%e4, H4⟩, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_A_4 c _ _ _ _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _)
  unfold owns; iexists _; isplitr
  swap; · iexact H7
  ipureintro; exact View.read_writes_of_cover _ _ _ _ _ (cover0_A_7 c _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Gen

end
-- ==== Proof.KernelRun.lean ====
/- The run of the idealized kernel's body at one grid point, with the pieces it leaves in each of its four output
   buffers named.  A trip of the body's loop reads one of the buffers it writes (the scales, which it accumulates), so the
   generated piece lists are functions of what all four buffers held at loop entry; `pb_entry` says that they depend on
   the scales' buffer alone, and `kernelRun0_A` states the run with lists that name no unknown contents. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- One trip's pieces depend on the contents of the scales' buffer alone, not on those of the other three outputs. -/
theorem tripL_entry (𝒱 : Variants) (c : Dev nD) (bd : Option 𝒱.V) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole) (v0 : IVec S8x128 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (k : Fin k0_t1_loop.trips)
    (f5 f5' : BufTy.Contents (Elt F) arg5.view.ty) (f6 f6' : BufTy.Contents (Elt F) arg6.view.ty) (f7 : BufTy.Contents (Elt F) arg7.view.ty) (f8 f8' : BufTy.Contents (Elt F) arg8.view.ty) :
    tripL_k0_t1 (F := F) 𝒱 c bd i arg1 harg1 arg2 harg2 arg3 harg3 arg4 harg4 arg5 harg5 arg6 harg6 arg7 harg7 arg8 harg8 v0 X_arg1 X_arg2 X_arg3 X_arg4 k f5 f6 f7 f8 = tripL_k0_t1 (F := F) 𝒱 c bd i arg1 harg1 arg2 harg2 arg3 harg3 arg4 harg4 arg5 harg5 arg6 harg6 arg7 harg7 arg8 harg8 v0 X_arg1 X_arg2 X_arg3 X_arg4 k f5' f6' f7 f8' := by
  sl_kernel_rfl

/-- The pieces of the trips before `k` depend, of the contents at loop entry, on those of the scales' buffer alone. -/
theorem pb_entry (𝒱 : Variants) (c : Dev nD) (bd : Option 𝒱.V) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole) (v0 : IVec S8x128 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty)
    (G5 G5' : BufTy.Contents (Elt F) arg5.view.ty) (G6 G6' : BufTy.Contents (Elt F) arg6.view.ty) (G7 : BufTy.Contents (Elt F) arg7.view.ty) (G8 G8' : BufTy.Contents (Elt F) arg8.view.ty) (k : ℕ) :
    pb_k0_t1 (F := F) 𝒱 c bd i arg1 harg1 arg2 harg2 arg3 harg3 arg4 harg4 arg5 harg5 arg6 harg6 arg7 harg7 arg8 harg8 v0 X_arg1 X_arg2 X_arg3 X_arg4 G5 G6 G7 G8 k = pb_k0_t1 (F := F) 𝒱 c bd i arg1 harg1 arg2 harg2 arg3 harg3 arg4 harg4 arg5 harg5 arg6 harg6 arg7 harg7 arg8 harg8 v0 X_arg1 X_arg2 X_arg3 X_arg4 G5' G6' G7 G8' k := by
  induction k with
  | zero => rfl
  | succ k ih =>
    by_cases hk : k < k0_t1_loop.trips
    · have h1 := pb_k0_t1_succ (F := F) 𝒱 c bd i arg1 harg1 arg2 harg2 arg3 harg3 arg4 harg4 arg5 harg5 arg6 harg6 arg7 harg7 arg8 harg8 v0 X_arg1 X_arg2 X_arg3 X_arg4 G5 G6 G7 G8 ⟨k, hk⟩
      have h2 := pb_k0_t1_succ (F := F) 𝒱 c bd i arg1 harg1 arg2 harg2 arg3 harg3 arg4 harg4 arg5 harg5 arg6 harg6 arg7 harg7 arg8 harg8 v0 X_arg1 X_arg2 X_arg3 X_arg4 G5' G6' G7 G8' ⟨k, hk⟩
      dsimp only at h1 h2
      rw [h1, h2, ih]
      generalize pb_k0_t1 (F := F) 𝒱 c bd i arg1 harg1 arg2 harg2 arg3 harg3 arg4 harg4 arg5 harg5 arg6 harg6 arg7 harg7 arg8 harg8 v0 X_arg1 X_arg2 X_arg3 X_arg4 G5' G6' G7 G8' k = p
      exact congrArg (fun q : List (View.Piece (Elt F) S128x16384 .bf16) × List (View.Piece (Elt F) S128x8192 .fp8e5m2) × List (View.Piece (Elt F) S128x128 .f32) × List (View.Piece (Elt F) S128x2048 .i8) => (q.1 ++ p.1, q.2.1 ++ p.2.1, q.2.2.1 ++ p.2.2.1, q.2.2.2 ++ p.2.2.2))
        (tripL_entry 𝒱 c bd i arg1 harg1 arg2 harg2 arg3 harg3 arg4 harg4 arg5 harg5 arg6 harg6 arg7 harg7 arg8 harg8 v0 X_arg1 X_arg2 X_arg3 X_arg4 ⟨k, hk⟩ (arg5.view.writes (Elt F) G5 p.1) (arg5.view.writes (Elt F) G5' p.1) (arg6.view.writes (Elt F) G6 p.2.1) (arg6.view.writes (Elt F) G6' p.2.1) (arg7.view.writes (Elt F) G7 p.2.2.1) (arg8.view.writes (Elt F) G8 p.2.2.2) (arg8.view.writes (Elt F) G8' p.2.2.2))
    · rw [pb_k0_t1.eq_2, pb_k0_t1.eq_2]
      unfold pb_k0_t1Step
      rw [dif_neg hk, dif_neg hk, ih]

/-- The pieces of the trips before `k`, the outputs other than the scales starting from contents nobody reads. -/
def pieces (𝒱 : Variants) (c : Dev nD) (bd : Option 𝒱.V) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole) (v0 : IVec S8x128 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (G7 : BufTy.Contents (Elt F) arg7.view.ty) (k : ℕ) : List (View.Piece (Elt F) S128x16384 .bf16) × List (View.Piece (Elt F) S128x8192 .fp8e5m2) × List (View.Piece (Elt F) S128x128 .f32) × List (View.Piece (Elt F) S128x2048 .i8) :=
  pb_k0_t1 (F := F) 𝒱 c bd i arg1 harg1 arg2 harg2 arg3 harg3 arg4 harg4 arg5 harg5 arg6 harg6 arg7 harg7 arg8 harg8 v0 X_arg1 X_arg2 X_arg3 X_arg4 arg5.view.junk arg6.view.junk G7 arg8.view.junk k

/-- The pieces of the trips before `k` are `pieces`, whatever the buffers other than the scales held. -/
theorem pb_eq_pieces (𝒱 : Variants) (c : Dev nD) (bd : Option 𝒱.V) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole) (v0 : IVec S8x128 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty)
    (G5 : BufTy.Contents (Elt F) arg5.view.ty) (G6 : BufTy.Contents (Elt F) arg6.view.ty) (G7 : BufTy.Contents (Elt F) arg7.view.ty) (G8 : BufTy.Contents (Elt F) arg8.view.ty) (k : ℕ) :
    pb_k0_t1 (F := F) 𝒱 c bd i arg1 harg1 arg2 harg2 arg3 harg3 arg4 harg4 arg5 harg5 arg6 harg6 arg7 harg7 arg8 harg8 v0 X_arg1 X_arg2 X_arg3 X_arg4 G5 G6 G7 G8 k = pieces (F := F) 𝒱 c bd i arg1 harg1 arg2 harg2 arg3 harg3 arg4 harg4 arg5 harg5 arg6 harg6 arg7 harg7 arg8 harg8 v0 X_arg1 X_arg2 X_arg3 X_arg4 G7 k :=
  pb_entry 𝒱 c bd i arg1 harg1 arg2 harg2 arg3 harg3 arg4 harg4 arg5 harg5 arg6 harg6 arg7 harg7 arg8 harg8 v0 X_arg1 X_arg2 X_arg3 X_arg4 _ _ _ _ _ _ _ k

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole)
    (x0 : Vec F S128x16384 .bf16) (x1 : Vec F S128x4096 .i32) (x2 : Vec F S512x512 .bf16) (x3 : Vec F S512x512 .bf16) :
    Σ' (L4 : List (View.Piece (Elt F) S128x16384 .bf16)), Σ' (L5 : List (View.Piece (Elt F) S128x8192 .fp8e5m2)), Σ' (L6 : List (View.Piece (Elt F) S128x128 .f32)), { L7 : List (View.Piece (Elt F) S128x2048 .i8) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc0_mvue24 i arg1 harg1 arg2 harg2 arg3 harg3 arg4 harg4 arg5 harg5 arg6 harg6 arg7 harg7 arg8 harg8) K } := by
  refine ⟨?_, ?_, ?_, ?_, fun E K => ?run⟩
  case run =>
    simp only [cc0_mvue24_eq_skeleton]; unfold cc0_mvue24_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3
    sl_exec
    sl_step
    simp only [pb_eq_pieces]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact H7

end Cert.KernelIdeal.Gen

end
-- ==== Proof.KernelFrame.lean ====
/- The certificate of the idealized kernel's run: what its body leaves in the four output buffers at every grid point
   (`outsAt0`), the pipeline's proof data, the run of the whole program (`run_main`) and the frame claim (`frame`). -/
module

public import proofs.«01_k».proof.Proof.KernelRun
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The run's pieces for output 4 tile its block (128 stores of `S128x128`), so they cover it. -/
theorem cover0_A_4 (c : Dev nD) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole)
    (x0 : Vec F S128x16384 .bf16) (x1 : Vec F S128x4096 .i32) (x2 : Vec F S512x512 .bf16) (x3 : Vec F S512x512 .bf16) (y : S128x16384.Idx) :
    ∃ pc ∈ (kernelRun0_A c i arg1 harg1 arg2 harg2 arg3 harg3 arg4 harg4 arg5 harg5 arg6 harg6 arg7 harg7 arg8 harg8 x0 x1 x2 x3).1, y ∈ pc.1.set :=
  View.cover_of_tiledL (kernelRun0_A c i arg1 harg1 arg2 harg2 arg3 harg3 arg4 harg4 arg5 harg5 arg6 harg6 arg7 harg7 arg8 harg8 x0 x1 x2 x3).1 S128x128.size (by sl_kernel_rfl) y

/-- What the run leaves in output 4's staging buffer: its pieces read back over junk. -/
def out0_A_4 (c : Dev nD) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole)
    (x0 : Vec F S128x16384 .bf16) (x1 : Vec F S128x4096 .i32) (x2 : Vec F S512x512 .bf16) (x3 : Vec F S512x512 .bf16) : Vec F S128x16384 .bf16 :=
  VO0_4.read (Elt F) (VO0_4.writes (Elt F) VO0_4.junk (kernelRun0_A c i arg1 harg1 arg2 harg2 arg3 harg3 arg4 harg4 arg5 harg5 arg6 harg6 arg7 harg7 arg8 harg8 x0 x1 x2 x3).1)

/-- The run's pieces for output 5 tile its block (64 stores of `S128x128`), so they cover it. -/
theorem cover0_A_5 (c : Dev nD) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole)
    (x0 : Vec F S128x16384 .bf16) (x1 : Vec F S128x4096 .i32) (x2 : Vec F S512x512 .bf16) (x3 : Vec F S512x512 .bf16) (y : S128x8192.Idx) :
    ∃ pc ∈ (kernelRun0_A c i arg1 harg1 arg2 harg2 arg3 harg3 arg4 harg4 arg5 harg5 arg6 harg6 arg7 harg7 arg8 harg8 x0 x1 x2 x3).2.1, y ∈ pc.1.set :=
  View.cover_of_tiledL (kernelRun0_A c i arg1 harg1 arg2 harg2 arg3 harg3 arg4 harg4 arg5 harg5 arg6 harg6 arg7 harg7 arg8 harg8 x0 x1 x2 x3).2.1 S128x128.size (by sl_kernel_rfl) y

/-- What the run leaves in output 5's staging buffer: its pieces read back over junk. -/
def out0_A_5 (c : Dev nD) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole)
    (x0 : Vec F S128x16384 .bf16) (x1 : Vec F S128x4096 .i32) (x2 : Vec F S512x512 .bf16) (x3 : Vec F S512x512 .bf16) : Vec F S128x8192 .fp8e5m2 :=
  VO0_5.read (Elt F) (VO0_5.writes (Elt F) VO0_5.junk (kernelRun0_A c i arg1 harg1 arg2 harg2 arg3 harg3 arg4 harg4 arg5 harg5 arg6 harg6 arg7 harg7 arg8 harg8 x0 x1 x2 x3).2.1)

/-- The run's pieces for output 6 tile its block (33 stores of `S128x128`), so they cover it. -/
theorem cover0_A_6 (c : Dev nD) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole)
    (x0 : Vec F S128x16384 .bf16) (x1 : Vec F S128x4096 .i32) (x2 : Vec F S512x512 .bf16) (x3 : Vec F S512x512 .bf16) (y : S128x128.Idx) :
    ∃ pc ∈ (kernelRun0_A c i arg1 harg1 arg2 harg2 arg3 harg3 arg4 harg4 arg5 harg5 arg6 harg6 arg7 harg7 arg8 harg8 x0 x1 x2 x3).2.2.1, y ∈ pc.1.set :=
  View.cover_of_tiledL (kernelRun0_A c i arg1 harg1 arg2 harg2 arg3 harg3 arg4 harg4 arg5 harg5 arg6 harg6 arg7 harg7 arg8 harg8 x0 x1 x2 x3).2.2.1 S128x128.size (by sl_kernel_rfl) y

/-- What the run leaves in output 6's staging buffer: its pieces read back over junk. -/
def out0_A_6 (c : Dev nD) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole)
    (x0 : Vec F S128x16384 .bf16) (x1 : Vec F S128x4096 .i32) (x2 : Vec F S512x512 .bf16) (x3 : Vec F S512x512 .bf16) : Vec F S128x128 .f32 :=
  VO0_6.read (Elt F) (VO0_6.writes (Elt F) VO0_6.junk (kernelRun0_A c i arg1 harg1 arg2 harg2 arg3 harg3 arg4 harg4 arg5 harg5 arg6 harg6 arg7 harg7 arg8 harg8 x0 x1 x2 x3).2.2.1)

/-- The run's pieces for output 7 tile its block (16 stores of `S128x128`), so they cover it. -/
theorem cover0_A_7 (c : Dev nD) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole)
    (x0 : Vec F S128x16384 .bf16) (x1 : Vec F S128x4096 .i32) (x2 : Vec F S512x512 .bf16) (x3 : Vec F S512x512 .bf16) (y : S128x2048.Idx) :
    ∃ pc ∈ (kernelRun0_A c i arg1 harg1 arg2 harg2 arg3 harg3 arg4 harg4 arg5 harg5 arg6 harg6 arg7 harg7 arg8 harg8 x0 x1 x2 x3).2.2.2.1, y ∈ pc.1.set :=
  View.cover_of_tiledL (kernelRun0_A c i arg1 harg1 arg2 harg2 arg3 harg3 arg4 harg4 arg5 harg5 arg6 harg6 arg7 harg7 arg8 harg8 x0 x1 x2 x3).2.2.2.1 S128x128.size (by sl_kernel_rfl) y

/-- What the run leaves in output 7's staging buffer: its pieces read back over junk. -/
def out0_A_7 (c : Dev nD) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole)
    (x0 : Vec F S128x16384 .bf16) (x1 : Vec F S128x4096 .i32) (x2 : Vec F S512x512 .bf16) (x3 : Vec F S512x512 .bf16) : Vec F S128x2048 .i8 :=
  VO0_7.read (Elt F) (VO0_7.writes (Elt F) VO0_7.junk (kernelRun0_A c i arg1 harg1 arg2 harg2 arg3 harg3 arg4 harg4 arg5 harg5 arg6 harg6 arg7 harg7 arg8 harg8 x0 x1 x2 x3).2.2.2.1)

/-! ## What the outputs hold after each point -/

/-- What the outputs' staging buffers hold after the body at point `t` (as a tuple, in window order): the run's contents at
    the point's memrefs and input blocks. -/
def outsAt0 (c : Dev nD) (t : Fin cfg0.N) : Vec F S128x16384 .bf16 × Vec F S128x8192 .fp8e5m2 × Vec F S128x128 .f32 × Vec F S128x2048 .i8 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t).1
    | ⟨5, _⟩ => (outsAt0 m c t).2.1
    | ⟨6, _⟩ => (outsAt0 m c t).2.2.1
    | ⟨7, _⟩ => (outsAt0 m c t).2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What the body leaves in the second input's window. -/
theorem after0_1 (c : Dev nD) (t : Fin cfg0.N) : (dats m 0 c).after 1 t = iblk m c 1 t := by dsimp only [dats]
/-- What the body leaves in the third input's window. -/
theorem after0_2 (c : Dev nD) (t : Fin cfg0.N) : (dats m 0 c).after 2 t = iblk m c 2 t := by dsimp only [dats]
/-- What the body leaves in the fourth input's window. -/
theorem after0_3 (c : Dev nD) (t : Fin cfg0.N) : (dats m 0 c).after 3 t = iblk m c 3 t := by dsimp only [dats]
/-- What the body leaves in the window of the dense result. -/
theorem after0_4 (c : Dev nD) (t : Fin cfg0.N) : (dats m 0 c).after 4 t = (outsAt0 m c t).1 := by dsimp only [dats]
/-- What the body leaves in the window of the codes. -/
theorem after0_5 (c : Dev nD) (t : Fin cfg0.N) : (dats m 0 c).after 5 t = (outsAt0 m c t).2.1 := by dsimp only [dats]
/-- What the body leaves in the window of the scales. -/
theorem after0_6 (c : Dev nD) (t : Fin cfg0.N) : (dats m 0 c).after 6 t = (outsAt0 m c t).2.2.1 := by dsimp only [dats]
/-- What the body leaves in the window of the packed channel numbers. -/
theorem after0_7 (c : Dev nD) (t : Fin cfg0.N) : (dats m 0 c).after 7 t = (outsAt0 m c t).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The second input's staging buffer holds its block at every point. -/
theorem before0_1 (c : Dev nD) (t : Fin cfg0.N) (d) : (dats m 0 c).before 1 t d = iblk m c 1 t :=
  before0_1_of m (dats m 0 c) (A_eq m c 1) (after0_1 m c) t d
/-- The third input's staging buffer holds its block at every point. -/
theorem before0_2 (c : Dev nD) (t : Fin cfg0.N) (d) : (dats m 0 c).before 2 t d = iblk m c 2 t :=
  before0_2_of m (dats m 0 c) (A_eq m c 2) (after0_2 m c) t d
/-- The fourth input's staging buffer holds its block at every point. -/
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  unfold outsAt0
  unfold out0_A_4 out0_A_5 out0_A_6 out0_A_7; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ (iblk m c 0 t) (iblk m c 1 t) (iblk m c 2 t) (iblk m c 3 t)).2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, ⟨%e4, H4⟩, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_A_4 c _ _ _ _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _)
  unfold owns; iexists _; isplitr
  swap; · iexact H7
  ipureintro; exact View.read_writes_of_cover _ _ _ _ _ (cover0_A_7 c _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Gen

end
-- ==== Proof.KernelTile.lean ====
/- What the kernel's body computes from one tile of 512 lanes (128 groups of four entries in each of 128 rows), as named
   functions of the tile: `x` the tile, `w` its random words, `pd` the matrix that sorts the tile by channel, `pi` the one
   that sorts it back, `v0` a table whose first row counts the lanes.  The body spells the computation out twice, once for
   each of the two tiles of a trip of its loop, cut into pieces in different ways; `trip_eq` says that both are these. -/
module

public import proofs.«01_k».proof.Proof.KernelRun

@[expose] public section

set_option maxRecDepth 16384

noncomputable section

namespace Cert.KernelIdeal.Tile

open Cert.KernelIdeal Cert.KernelIdeal.Gen Idealize.ShloMosaic Idealize.ShloMosaic.TcCoe Idealize.ShloMosaic.Tactic

variable {F : FTy → Type} [FloatOps F]

/-- A float tile of one lane per group. -/
abbrev T32 (F : FTy → Type) := FVec F S128x128 .f32

section
variable (v0 : IVec S8x128 32) (pd pi : Vec F S512x512 .bf16) (x : Vec F S128x512 .bf16) (w : Vec F S128x128 .i32)

/-- The larger of the two kept magnitudes. -/
def big : T32 F := k0_pay16 x pd
/-- The smaller of the two kept magnitudes. -/
def small : T32 F := k0_pay17 x pd
/-- The threshold that the cumulated magnitudes are compared with. -/
def thr : T32 F := k0_pay18 x pd w
/-- The lower kept channel is at least 1. -/
def l1 : IVec S128x128 1 := k0_pay19 x pd w
/-- The lower kept channel is 2. -/
def l2 : IVec S128x128 1 := k0_pay20 x pd w
/-- The higher kept channel is at least 2. -/
def h2 : IVec S128x128 1 := k0_pay21 (k0_pay8 x pd) (k0_pay12 x pd) (big pd x) (thr pd x w)
/-- The higher kept channel is 3. -/
def h3 : IVec S128x128 1 := k0_pay22 (k0_pay12 x pd) (k0_pay13 x pd) (big pd x) (thr pd x w)
/-- The entry at the lower kept channel. -/
def aLo : FVec F S128x128 .bf16 := k0_pay25 (k0_pay4 x pd) (k0_pay5 x pd) (k0_pay6 x pd) (l1 pd x w) (l2 pd x w)
/-- The entry at the higher kept channel. -/
def aHi : FVec F S128x128 .bf16 :=
  k0_pay26 (k0_pay5 x pd) (k0_pay6 x pd) (k0_pay7 x pd) (k0_pay8 x pd) (k0_pay12 x pd) (k0_pay13 x pd) (big pd x) (thr pd x w)

/-- The largest kept magnitude of the block of 32 groups, times the adjusting constant. -/
def top : T32 F := k0_pay29 v0 (k0_pay27 v0 (big pd x)) (k0_pay28 v0)

/-- The search's first comparison reads the maximum times this constant. -/
abbrev c0 : F .f32 := FloatOps.ofBits .f32 0x37000000#32
/-- One of the search's factors. -/
abbrev c1 : F .f32 := FloatOps.ofBits .f32 0x3E800000#32

/-- The power of two that the search reaches before its last step. -/
def sc6 (M : T32 F) : T32 F := k0_pay47 M (k0_pay35 M c0) (k0_pay37 M) (k0_pay38 M c0)
/-- The block's scale from its largest magnitude. -/
def scOf (M : T32 F) : T32 F := k0_pay51 M (sc6 M)
/-- The block's inverse scale from its largest magnitude. -/
def invOf (M : T32 F) : T32 F :=
  k0_pay52 M (k0_pay45 M (k0_pay35 M c0) (k0_pay36 M c0) (k0_pay37 M) (k0_pay38 M c0))
    (k0_pay46 M (k0_pay35 M c0) (k0_pay37 M) (k0_pay38 M c0)) (sc6 M) c1
/-- The block's scale, at every lane. -/
def sc : T32 F := scOf (top v0 pd x)

/-- The value kept at the lower channel. -/
def vLo : FVec F S128x128 .bf16 :=
  k0_pay56 (k0_pay15 x pd) (big pd x) (small pd x) (aLo pd x w) (top v0 pd x)
    (k0_pay45 (top v0 pd x) (k0_pay35 (top v0 pd x) c0) (k0_pay36 (top v0 pd x) c0) (k0_pay37 (top v0 pd x)) (k0_pay38 (top v0 pd x) c0))
    (k0_pay46 (top v0 pd x) (k0_pay35 (top v0 pd x) c0) (k0_pay37 (top v0 pd x)) (k0_pay38 (top v0 pd x) c0)) (sc6 (top v0 pd x)) c1
/-- The magnitude kept at the higher channel. -/
def qHi : FVec F S128x128 .bf16 :=
  k0_pay57 (k0_pay15 x pd) (big pd x) (small pd x) (aLo pd x w) (top v0 pd x)
    (k0_pay45 (top v0 pd x) (k0_pay35 (top v0 pd x) c0) (k0_pay36 (top v0 pd x) c0) (k0_pay37 (top v0 pd x)) (k0_pay38 (top v0 pd x) c0))
    (k0_pay46 (top v0 pd x) (k0_pay35 (top v0 pd x) c0) (k0_pay37 (top v0 pd x)) (k0_pay38 (top v0 pd x) c0)) (sc6 (top v0 pd x)) c1
/-- The value kept at the higher channel. -/
def vHi : FVec F S128x128 .bf16 := k0_pay59 (qHi v0 pd x w) (k0_pay58 (aHi pd x w))
/-- The kept values at their channels, sorted back into the tile's order. -/
def picked : FVec F S128x512 .bf16 :=
  k0_pay60 (l1 pd x w) (l2 pd x w) (h2 pd x w) (h3 pd x w) (vLo v0 pd x w) (qHi v0 pd x w) (k0_pay58 (aHi pd x w)) pi
/-- The dense result on the tile, a quarter of it at a time. -/
def dense0 : FVec F S128x128 .bf16 :=
  k0_pay61 (l1 pd x w) (l2 pd x w) (h2 pd x w) (h3 pd x w) (sc v0 pd x) (vLo v0 pd x w) (qHi v0 pd x w) (k0_pay58 (aHi pd x w)) pi
/-- The second quarter of the dense result. -/
def dense1 : FVec F S128x128 .bf16 := k0_pay63 (sc v0 pd x) (picked v0 pd pi x w) k0_pay62
/-- The third quarter of the dense result. -/
def dense2 : FVec F S128x128 .bf16 := k0_pay64 (sc v0 pd x) (picked v0 pd pi x w)
/-- The fourth quarter of the dense result. -/
def dense3 : FVec F S128x128 .bf16 := k0_pay65 (sc v0 pd x) (picked v0 pd pi x w)
/-- The lane of each position. -/
abbrev lane : IVec S128x128 32 := iota .tc S128x128 32 [1] iota_S128x128_d1_w32
/-- The codes of the tile, half of them at a time. -/
def codes0 : FVec F S128x128 .fp8e5m2 := k0_pay68 (k0_pay66 (vLo v0 pd x w)) (k0_pay67 (vHi v0 pd x w)) lane 1#32
/-- The second half of the codes. -/
def codes1 : FVec F S128x128 .fp8e5m2 :=
  k0_pay73 (k0_pay66 (vLo v0 pd x w)) (k0_pay67 (vHi v0 pd x w)) (k0_pay69 lane) (k0_pay70 lane) (k0_pay71 lane) (k0_pay72 lane)
/-- The two kept channels' numbers in four bits, four rows to a word. -/
def fld : IVec S32x128 32 := k0_pay74 (l1 pd x w) (l2 pd x w) (h2 pd x w) (h3 pd x w)
end

/-- The scales' buffer after a tile: the lanes `4·t … 4·t+3` take the tile's four scales. -/
def scales (t : BitVec 32) (s : T32 F) (prev : Vec F S128x128 .f32) : FVec F S128x128 .f32 := k0_pay76 t s lane k0_pay75 prev

/-- A lane's number, of four rows to a word. -/
abbrev lane32 : IVec S32x128 32 := iota .tc S32x128 32 [1] iota_S32x128_d1_w32
/-- Each field with its right neighbour's four bits above it. -/
def paired (f : IVec S32x128 32) : IVec S32x128 32 := ori f (shli (dynamicRotate 1 (127#32) none f rotates_S32x128_d1) (broadcast S32x128 4#32))
/-- The lane `2·l`, modulo 128. -/
def dbl : IVec S32x128 32 := andi (muli lane32 (broadcast S32x128 2#32)) (broadcast S32x128 127#32)
/-- The even lanes' fields, twice over. -/
def evens (f : IVec S32x128 32) : IVec S32x128 32 :=
  dynamicGather 1 f (shapeCast S32x128 (shapeCast S32x128x1 (select (cmpi .slt dbl (broadcast S32x128 0#32)) (addi dbl (broadcast S32x128 128#32)) dbl)
    shapeCasts_S32x128_S32x128x1) shapeCasts_S32x128x1_S32x128)
/-- The packed channel numbers of two neighbouring tiles, as bytes. -/
def meta' (f f' : IVec S32x128 32) : IVec S128x128 8 := k0_pay2 lane32 (evens (paired f)) (paired f') (broadcast S32x128 2#32)

section trip

/-- The tile `2·k + j` of the row block. -/
abbrev xAt (arg1 : Memref sig .tc .vmem S128x16384 .bf16) (X : BufTy.Contents (Elt F) arg1.view.ty) (k : Fin k0_t1_loop.trips) (j : Fin 2) : Vec F S128x512 .bf16 :=
  View.readAt (Elt F) arg1.view (Rect.unit (s := S128x16384) (k0_off1 k (BitVec.ofNat 32 j.val)) S128x512.size (k0_off1_inb k j)).toLoadRect X
/-- The random words of the tile `2·k + j`. -/
abbrev wAt (arg2 : Memref sig .tc .vmem S128x4096 .i32) (X : BufTy.Contents (Elt F) arg2.view.ty) (k : Fin k0_t1_loop.trips) (j : Fin 2) : Vec F S128x128 .i32 :=
  View.readAt (Elt F) arg2.view (Rect.unit (s := S128x4096) (k0_off2 k (BitVec.ofNat 32 j.val)) S128x128.size (k0_off2_inb k j)).toLoadRect X
/-- A whole 512×512 matrix. -/
abbrev mat (arg3 : Memref sig .tc .vmem S512x512 .bf16) (X : BufTy.Contents (Elt F) arg3.view.ty) : Vec F S512x512 .bf16 :=
  View.readAt (Elt F) arg3.view (Rect.unit (s := S512x512) ![0, 0] S512x512.size inb_S512x512_S512x512_0_0).toLoadRect X
/-- The place of a quarter of a tile in the dense result. -/
abbrev denseRect (k : Fin k0_t1_loop.trips) (j : Fin 2) (q : Fin 4) : Rect S128x16384 :=
  Rect.unit (s := S128x16384) (k0_off3 k (BitVec.ofNat 32 j.val) (BitVec.ofNat 32 (128 * q.val))) S128x128.size (k0_off3_inb k j q)
/-- The place of half a tile's codes. -/
abbrev codesRect (k : Fin k0_t1_loop.trips) (j : Fin 2) (q : Fin 2) : Rect S128x8192 :=
  Rect.unit (s := S128x8192) (k0_off4 k (BitVec.ofNat 32 j.val) (BitVec.ofNat 32 (128 * q.val))) S128x128.size (k0_off4_inb k j q)
/-- The place of a trip's packed channel numbers. -/
abbrev metaRect (k : Fin k0_t1_loop.trips) : Rect S128x2048 :=
  Rect.unit (s := S128x2048) (k0_off5 k) S128x128.size (k0_off5_inb k)
/-- The whole buffer of the scales. -/
abbrev scalesRect : Rect S128x128 := Rect.unit (s := S128x128) ![0, 0] S128x128.size inb_S128x128_S128x128_0_0
/-- The number of the tile `2·k + j`, as the body computes it. -/
abbrev tileNo (k : Fin k0_t1_loop.trips) (j : Fin 2) : BitVec 32 :=
  Scalar.addi (Scalar.muli (Scf.iv 0#32 1#32 k) 2#32) (BitVec.ofNat 32 j.val)

/-- What one trip writes to the dense result. -/
def denseL (v0 : IVec S8x128 32) (pd pi : Vec F S512x512 .bf16) (k : Fin k0_t1_loop.trips) (x : Fin 2 → Vec F S128x512 .bf16) (w : Fin 2 → Vec F S128x128 .i32) :
    List (View.Piece (Elt F) S128x16384 .bf16) :=
  [⟨denseRect k 1 3, dense3 v0 pd pi (x 1) (w 1)⟩, ⟨denseRect k 1 2, dense2 v0 pd pi (x 1) (w 1)⟩,
   ⟨denseRect k 1 1, dense1 v0 pd pi (x 1) (w 1)⟩, ⟨denseRect k 1 0, dense0 v0 pd pi (x 1) (w 1)⟩,
   ⟨denseRect k 0 3, dense3 v0 pd pi (x 0) (w 0)⟩, ⟨denseRect k 0 2, dense2 v0 pd pi (x 0) (w 0)⟩,
   ⟨denseRect k 0 1, dense1 v0 pd pi (x 0) (w 0)⟩, ⟨denseRect k 0 0, dense0 v0 pd pi (x 0) (w 0)⟩]
/-- What one trip writes to the codes. -/
def codesL (v0 : IVec S8x128 32) (pd : Vec F S512x512 .bf16) (k : Fin k0_t1_loop.trips) (x : Fin 2 → Vec F S128x512 .bf16) (w : Fin 2 → Vec F S128x128 .i32) :
    List (View.Piece (Elt F) S128x8192 .fp8e5m2) :=
  [⟨codesRect k 1 1, codes1 v0 pd (x 1) (w 1)⟩, ⟨codesRect k 1 0, codes0 v0 pd (x 1) (w 1)⟩,
   ⟨codesRect k 0 1, codes1 v0 pd (x 0) (w 0)⟩, ⟨codesRect k 0 0, codes0 v0 pd (x 0) (w 0)⟩]
/-- What one trip writes to the scales, of which it has read `prev`. -/
def scalesL (v0 : IVec S8x128 32) (pd : Vec F S512x512 .bf16) (k : Fin k0_t1_loop.trips) (x : Fin 2 → Vec F S128x512 .bf16) (prev : Vec F S128x128 .f32) :
    List (View.Piece (Elt F) S128x128 .f32) :=
  [⟨scalesRect, scales (tileNo k 1) (sc v0 pd (x 1)) (scales (tileNo k 0) (sc v0 pd (x 0)) prev)⟩,
   ⟨scalesRect, scales (tileNo k 0) (sc v0 pd (x 0)) prev⟩]
/-- What one trip writes to the packed channel numbers. -/
def metaL (pd : Vec F S512x512 .bf16) (k : Fin k0_t1_loop.trips) (x : Fin 2 → Vec F S128x512 .bf16) (w : Fin 2 → Vec F S128x128 .i32) :
    List (View.Piece (Elt F) S128x2048 .i8) :=
  [⟨metaRect k, meta' (fld pd (x 0) (w 0)) (fld pd (x 1) (w 1))⟩]

variable (𝒱 : Variants) (c : Dev nD) (bd : Option 𝒱.V) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole) (v0 : IVec S8x128 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (k : Fin k0_t1_loop.trips) (f5 : BufTy.Contents (Elt F) arg5.view.ty) (f6 : BufTy.Contents (Elt F) arg6.view.ty) (f7 : BufTy.Contents (Elt F) arg7.view.ty) (f8 : BufTy.Contents (Elt F) arg8.view.ty)

/-- One trip's pieces (dense), in the tile's named functions. -/
theorem trip_dense : (tripL_k0_t1 (F := F) 𝒱 c bd i arg1 harg1 arg2 harg2 arg3 harg3 arg4 harg4 arg5 harg5 arg6 harg6 arg7 harg7 arg8 harg8 v0 X_arg1 X_arg2 X_arg3 X_arg4 k f5 f6 f7 f8).1 = denseL v0 (mat arg3 X_arg3) (mat arg4 X_arg4) k (xAt arg1 X_arg1 k) (wAt arg2 X_arg2 k) := by
  sl_kernel_rfl

/-- One trip's pieces (codes), in the tile's named functions. -/
theorem trip_codes : (tripL_k0_t1 (F := F) 𝒱 c bd i arg1 harg1 arg2 harg2 arg3 harg3 arg4 harg4 arg5 harg5 arg6 harg6 arg7 harg7 arg8 harg8 v0 X_arg1 X_arg2 X_arg3 X_arg4 k f5 f6 f7 f8).2.1 = codesL v0 (mat arg3 X_arg3) k (xAt arg1 X_arg1 k) (wAt arg2 X_arg2 k) := by
  sl_kernel_rfl

/-- One trip's pieces (meta), in the tile's named functions. -/
theorem trip_meta : (tripL_k0_t1 (F := F) 𝒱 c bd i arg1 harg1 arg2 harg2 arg3 harg3 arg4 harg4 arg5 harg5 arg6 harg6 arg7 harg7 arg8 harg8 v0 X_arg1 X_arg2 X_arg3 X_arg4 k f5 f6 f7 f8).2.2.2 = metaL (mat arg3 X_arg3) k (xAt arg1 X_arg1 k) (wAt arg2 X_arg2 k) := by
  sl_kernel_rfl

/-- One trip's pieces (scales), in the tile's named functions. -/
theorem trip_scales : (tripL_k0_t1 (F := F) 𝒱 c bd i arg1 harg1 arg2 harg2 arg3 harg3 arg4 harg4 arg5 harg5 arg6 harg6 arg7 harg7 arg8 harg8 v0 X_arg1 X_arg2 X_arg3 X_arg4 k f5 f6 f7 f8).2.2.1 = scalesL v0 (mat arg3 X_arg3) k (xAt arg1 X_arg1 k) (View.readAt (Elt F) arg7.view (scalesRect).toLoadRect f7) := by
  have h : (tripL_k0_t1 (F := F) 𝒱 c bd i arg1 harg1 arg2 harg2 arg3 harg3 arg4 harg4 arg5 harg5 arg6 harg6 arg7 harg7 arg8 harg8 v0 X_arg1 X_arg2 X_arg3 X_arg4 k f5 f6 f7 f8).2.2.1 =
      [⟨scalesRect, scales (tileNo k 1) (sc v0 (mat arg3 X_arg3) (xAt arg1 X_arg1 k 1)) (arg7.view.readCov [⟨scalesRect, scales (tileNo k 0) (sc v0 (mat arg3 X_arg3) (xAt arg1 X_arg1 k 0)) (View.readAt (Elt F) arg7.view (scalesRect).toLoadRect f7)⟩] (scalesRect).toLoadRect)⟩,
       ⟨scalesRect, scales (tileNo k 0) (sc v0 (mat arg3 X_arg3) (xAt arg1 X_arg1 k 0)) (View.readAt (Elt F) arg7.view (scalesRect).toLoadRect f7)⟩] := by
    sl_kernel_rfl
  rw [h, View.readCov_cons_toLoadRect]
  rfl

end trip

end Cert.KernelIdeal.Tile

end
-- ==== Proof.Spec.lean ====
/- What both programs compute, over the reals, from one row of groups of four entries: which two of a group's four
   channels are kept, with what values; the scale of a block of 32 groups; and the four results. -/
module

public import Idealize.ShloMosaic.Lib.Pointwise

@[expose] public section

noncomputable section

namespace Cert.Spec

/-! ## One group -/

section group
variable (a : Fin 4 → ℝ) (u : ℝ)

/-- The sum of the first two magnitudes. -/
def c2 : ℝ := |a 0| + |a 1|
/-- The sum of the first three magnitudes. -/
def c3 : ℝ := c2 a + |a 2|
/-- The sum of all four magnitudes. -/
def total : ℝ := c3 a + |a 3|
/-- The largest magnitude. -/
def top : ℝ := max (max |a 0| |a 1|) (max |a 2| |a 3|)
/-- The larger kept magnitude. -/
def big : ℝ := max (top a) (total a * (1 / 2))
/-- The smaller kept magnitude. -/
def small : ℝ := total a - big a
/-- The threshold that the cumulated magnitudes are compared with (negative where nothing is left to compare). -/
def thr : ℝ := if 0 < small a then u * small a else -(2 : ℝ) ^ (-126 : ℤ)
/-- The lower kept channel is at least 1. -/
def L1 : Prop := |a 0| ≤ thr a u
/-- The lower kept channel is 2. -/
def L2 : Prop := c2 a ≤ thr a u
/-- The higher kept channel is at least 2. -/
def H2 : Prop := min (c2 a - big a) |a 0| ≤ thr a u
/-- The higher kept channel is 3. -/
def H3 : Prop := min (c3 a - big a) (c2 a) ≤ thr a u
open Classical in
/-- The lower kept channel. -/
def lo : Fin 4 := if L2 a u then 2 else if L1 a u then 1 else 0
open Classical in
/-- The higher kept channel. -/
def hi : Fin 4 := if H3 a u then 3 else if H2 a u then 2 else 1
/-- The sign of a number. -/
def sgn (x : ℝ) : ℝ := if 0 < x then 1 else if x < 0 then -1 else 0
/-- The value kept at the lower channel: the larger magnitude where the lower channel is the group's largest entry. -/
def vLo : ℝ := (if |a (lo a u)| = top a then big a else small a) * sgn (a (lo a u))
/-- The value kept at the higher channel: the smaller magnitude where the lower channel is the group's largest entry. -/
def vHi : ℝ := (if |a (lo a u)| = top a then small a else big a) * sgn (a (hi a u))
/-- The two channels in four bits. -/
def field : ℕ := (lo a u).val + 4 * (hi a u).val

end group

/-! ## One block, one row -/

/-- The largest kept magnitude of 32 groups. -/
def amax (A : ℕ → Fin 4 → ℝ) (b : ℕ) : ℝ := (Finset.range 32).sup' ⟨0, by simp⟩ fun i => big (A (32 * b + i))

/-- `s` is the scale of a block whose largest kept magnitude is `x`: 1 if that is zero, else the smallest power of two `s`
    with `x < 57344·s` (57344 is the largest number of the codes' format). -/
def IsScale (x s : ℝ) : Prop :=
  (x = 0 ∧ s = 1) ∨ (x ≠ 0 ∧ ∃ e : ℤ, -126 ≤ e ∧ e ≤ 127 ∧ s = (2 : ℝ) ^ e ∧ 28672 * s ≤ x ∧ x < 57344 * s)

open Classical in
/-- The scale of a block whose largest kept magnitude is `x`. -/
def scale (x : ℝ) : ℝ := if h : ∃ s, IsScale x s then h.choose else 1

/-- A block has one scale. -/
theorem IsScale.unique {x s s' : ℝ} (h : IsScale x s) (h' : IsScale x s') : s = s' := by
  rcases h with ⟨h0, h1⟩ | ⟨h0, e, -, -, rfl, hl, hu⟩ <;> rcases h' with ⟨h0', h1'⟩ | ⟨h0', e', -, -, rfl, hl', hu'⟩
  · rw [h1, h1']
  · exact absurd h0 h0'
  · exact absurd h0' h0
  · have lt1 : ∀ p q : ℤ, (28672 : ℝ) * 2 ^ p < 57344 * 2 ^ q → p ≤ q := by
      intro p q h
      have : (2 : ℝ) ^ p < 2 ^ (q + 1) := by rw [zpow_add₀ (by norm_num)]; norm_num; linarith
      have := (zpow_lt_zpow_iff_right₀ (by norm_num : (1 : ℝ) < 2)).1 this
      omega
    have := lt1 e e' (hl.trans_lt hu')
    have := lt1 e' e (hl'.trans_lt hu)
    rw [show e = e' by omega]

/-- Whatever is a block's scale is `scale`. -/
theorem scale_eq {x s : ℝ} (h : IsScale x s) : scale x = s := by
  have : ∃ s, IsScale x s := ⟨s, h⟩
  rw [scale, dif_pos this]
  exact this.choose_spec.unique h

/-- A scale is positive. -/
theorem IsScale.pos {x s : ℝ} (h : IsScale x s) : 0 < s := by
  rcases h with ⟨_, rfl⟩ | ⟨_, e, _, _, rfl, _⟩
  · norm_num
  · positivity

section row
variable (A : ℕ → Fin 4 → ℝ) (u : ℕ → ℝ)

/-- The scale of the block that group `g` lies in. -/
def scl (g : ℕ) : ℝ := scale (amax A (g / 32))
/-- Entry `c` of a row of the codes: the value kept at the lower (even `c`) or higher (odd `c`) channel of group `c / 2`,
    over its block's scale. -/
def code (c : ℕ) : ℝ :=
  (if c % 2 = 0 then vLo (A (c / 2)) (u (c / 2)) else vHi (A (c / 2)) (u (c / 2))) * (scl A (c / 2))⁻¹
/-- Entry `c` of a row of the dense result: channel `c % 4` of group `c / 4`, zero where it is not kept. -/
def dense (c : ℕ) : ℝ :=
  (if lo (A (c / 4)) (u (c / 4)) = Fin.ofNat 4 c then code A u (2 * (c / 4))
    else if hi (A (c / 4)) (u (c / 4)) = Fin.ofNat 4 c then code A u (2 * (c / 4) + 1) else 0) * scl A (c / 4)
/-- Byte `c` of a row of the packed channel numbers. -/
def packed (c : ℕ) : ℕ := field (A (2 * c)) (u (2 * c)) + 16 * field (A (2 * c + 1)) (u (2 * c + 1))

end row

/-- An input entry is zero or of a moderate size. -/
def Ok (y : ℝ) : Prop := y = 0 ∨ (2 : ℝ) ^ (-100 : ℤ) ≤ |y| ∧ |y| ≤ (2 : ℝ) ^ (100 : ℤ)

/-- The random number in [0, 1) that a word stands for. -/
def uOf (w : BitVec 32) : ℝ := ((w >>> 8).toNat : ℝ) * (2 : ℝ) ^ (-24 : ℤ)

/-- The draw that a word stands for is not negative. -/
theorem uOf_nonneg (w : BitVec 32) : 0 ≤ uOf w := by unfold uOf; positivity

/-- The draw that a word stands for is below one. -/
theorem uOf_lt_one (w : BitVec 32) : uOf w < 1 := by
  have h : (w >>> 8).toNat < 2 ^ 24 := by
    rw [BitVec.toNat_ushiftRight]; have := w.isLt; rw [Nat.shiftRight_eq_div_pow]; omega
  have h' : ((w >>> 8).toNat : ℝ) < 2 ^ 24 := by exact_mod_cast h
  unfold uOf
  calc _ < (2 : ℝ) ^ 24 * 2 ^ (-24 : ℤ) := by gcongr
    _ = 1 := by norm_num

end Cert.Spec

end
-- ==== Proof.Choice.lean ====
/- The reference chooses a group's two channels by cases, the kernel by comparing cumulated magnitudes with one threshold:
   `lo_eq` and `hi_eq` say that the two choices agree, `vLo_eq` and `vHi_eq` that the kept values do. -/
module

public import proofs.«01_k».proof.Proof.Spec

@[expose] public section

noncomputable section

namespace Cert.Spec

/-! ## The reference's choice -/

section group
variable (a : Fin 4 → ℝ) (u : ℝ)

/-- The magnitudes left beside the largest, and the reference's first case: the largest is at least half of the total. -/
def rest : ℝ := total a - top a
/-- One entry is at least half of the total. -/
def CaseC : Prop := total a ≤ 2 * top a
/-- The first channel of largest magnitude. -/
def jm : ℕ := if |a 0| = top a then 0 else if |a 1| = top a then 1 else if |a 2| = top a then 2 else 3
/-- The other channel in the first case. -/
def sec : ℕ :=
  if rest a = 0 then (if jm a ≤ 0 then 1 else 0)
  else if u * rest a < (if jm a = 0 then |a 1| else |a 0|) then (if jm a ≤ 0 then 1 else 0)
  else if u * rest a < (if jm a = 0 then |a 1| else |a 0|) + (if jm a ≤ 1 then |a 2| else |a 1|) then (if jm a ≤ 1 then 2 else 1)
  else (if jm a ≤ 2 then 3 else 2)
/-- The number of cumulated magnitudes below a threshold. -/
def count (t : ℝ) : ℕ := (if |a 0| ≤ t then 1 else 0) + (if c2 a ≤ t then 1 else 0) + (if c3 a ≤ t then 1 else 0)
/-- Half of the total. -/
def half : ℝ := total a * (1 / 2)
/-- The first channel of the systematic draw: how many cumulated magnitudes the first point passes, at most 2. -/
def first : ℕ := min 2 (count a (u * half a))
/-- The second channel of the systematic draw: the same for the second point, above the first channel and at most 3. -/
def second : ℕ := min 3 (max (count a (u * half a + half a)) (first a u + 1))
open Classical in
/-- The reference's lower channel. -/
def rlo : ℕ := if CaseC a then min (jm a) (sec a u) else first a u
open Classical in
/-- The reference's higher channel. -/
def rhi : ℕ := if CaseC a then max (jm a) (sec a u) else second a u

end group

/-- The choice, on the magnitudes as numbers: `M` the largest, `t` the threshold. -/
theorem choice_rest (b0 b1 b2 b3 M t r : ℝ) (h0 : 0 ≤ b0) (h1 : 0 ≤ b1) (h2 : 0 ≤ b2) (h3 : 0 ≤ b3) (m0 : b0 ≤ M) (m1 : b1 ≤ M)
    (m2 : b2 ≤ M) (m3 : b3 ≤ M) (hM : ¬ b0 = M → ¬ b1 = M → ¬ b2 = M → b3 = M) (hr : r = b0 + b1 + b2 + b3 - M) (hc : r ≤ M)
    (ht : 0 ≤ t) (htr : t < r) (j s : ℕ) (hj : j = if b0 = M then 0 else if b1 = M then 1 else if b2 = M then 2 else 3)
    (hs : s = if t < (if j = 0 then b1 else b0) then (if j ≤ 0 then 1 else 0)
      else if t < (if j = 0 then b1 else b0) + (if j ≤ 1 then b2 else b1) then (if j ≤ 1 then 2 else 1)
      else (if j ≤ 2 then 3 else 2)) :
    min j s = (if b0 + b1 ≤ t then 2 else if b0 ≤ t then 1 else 0)
    ∧ max j s = (if min (b0 + b1 + b2 - M) (b0 + b1) ≤ t then 3 else if min (b0 + b1 - M) b0 ≤ t then 2 else 1) := by
  have hor : ∀ x y z : ℝ, min x y ≤ z ↔ ¬ (z < x ∧ z < y) := fun x y z => by rw [← not_lt, lt_min_iff]
  simp only [hor]
  by_cases e0 : b0 = M
  · rw [if_pos e0] at hj
    subst hj e0
    simp only [if_true, le_refl, zero_le, Nat.zero_le] at hs
    subst hs
    have k1 : ¬ b0 + b1 ≤ t := by linarith
    have k2 : ¬ b0 ≤ t := by linarith
    have k3 : (t < b0 + b1 + b2 - b0 ∧ t < b0 + b1) ↔ t < b1 + b2 := ⟨fun h => by linarith [h.1], fun h => ⟨by linarith, by linarith⟩⟩
    have k4 : (t < b0 + b1 - b0 ∧ t < b0) ↔ t < b1 := ⟨fun h => by linarith [h.1], fun h => ⟨by linarith, by linarith⟩⟩
    simp only [k1, k2, k3, k4, if_false]
    by_cases g1 : t < b1 <;> by_cases g2 : t < b1 + b2 <;> simp [g1, g2] <;> linarith
  rw [if_neg e0] at hj
  by_cases e1 : b1 = M
  · rw [if_pos e1] at hj
    subst hj e1
    norm_num at hs
    subst hs
    have k1 : ¬ b0 + b1 ≤ t := by linarith
    have k3 : (t < b0 + b1 + b2 - b1 ∧ t < b0 + b1) ↔ t < b0 + b2 := ⟨fun h => by linarith [h.1], fun h => ⟨by linarith, by linarith⟩⟩
    have k4 : (t < b0 + b1 - b1 ∧ t < b0) ↔ t < b0 := ⟨fun h => h.2, fun h => ⟨by linarith, by linarith⟩⟩
    simp only [k1, k3, k4, if_false, ← not_lt]
    by_cases g1 : t < b0 <;> by_cases g2 : t < b0 + b2 <;> simp [g1, g2] <;> linarith
  rw [if_neg e1] at hj
  by_cases e2 : b2 = M
  · rw [if_pos e2] at hj
    subst hj e2
    norm_num at hs
    subst hs
    have k3 : (t < b0 + b1 + b2 - b2 ∧ t < b0 + b1) ↔ t < b0 + b1 := ⟨fun h => h.2, fun h => ⟨by linarith, by linarith⟩⟩
    have k4 : ¬ (t < b0 + b1 - b2 ∧ t < b0) := fun h => by linarith [h.1]
    simp only [k3, k4, ← not_lt]
    by_cases g1 : t < b0 <;> by_cases g2 : t < b0 + b1 <;> simp [g1, g2] <;> linarith
  rw [if_neg e2] at hj
  have e3 := hM e0 e1 e2
  subst hj e3
  norm_num at hs
  subst hs
  have k3 : ¬ (t < b0 + b1 + b2 - b3 ∧ t < b0 + b1) := fun h => by linarith [h.1]
  simp only [k3, ← not_lt]
  by_cases g1 : t < b0 <;> by_cases g2 : t < b0 + b1 <;> simp [g1, g2] <;> linarith

/-- The choice where the largest magnitude is all there is: the threshold is negative. -/
theorem choice_alone (b0 b1 b2 b3 M e : ℝ) (h0 : 0 ≤ b0) (h1 : 0 ≤ b1) (h2 : 0 ≤ b2) (h3 : 0 ≤ b3) (m0 : b0 ≤ M) (m1 : b1 ≤ M)
    (m2 : b2 ≤ M) (m3 : b3 ≤ M) (hM : ¬ b0 = M → ¬ b1 = M → ¬ b2 = M → b3 = M) (hr : 0 = b0 + b1 + b2 + b3 - M)
    (he : 0 < e) (hMe : M = 0 ∨ e ≤ M) (j s : ℕ) (hj : j = if b0 = M then 0 else if b1 = M then 1 else if b2 = M then 2 else 3)
    (hs : s = if j ≤ 0 then 1 else 0) :
    min j s = (if b0 + b1 ≤ -e then 2 else if b0 ≤ -e then 1 else 0)
    ∧ max j s = (if min (b0 + b1 + b2 - M) (b0 + b1) ≤ -e then 3 else if min (b0 + b1 - M) b0 ≤ -e then 2 else 1) := by
  have hor : ∀ x y z : ℝ, min x y ≤ z ↔ ¬ (z < x ∧ z < y) := fun x y z => by rw [← not_lt, lt_min_iff]
  have k1 : ¬ b0 + b1 ≤ -e := by linarith
  have k2 : ¬ b0 ≤ -e := by linarith
  simp only [hor, k1, k2, if_false]
  by_cases e0 : b0 = M
  · rw [if_pos e0] at hj
    subst hj e0 hs
    have k3 : (-e < b0 + b1 + b2 - b0 ∧ -e < b0 + b1) := ⟨by linarith, by linarith⟩
    have k4 : (-e < b0 + b1 - b0 ∧ -e < b0) := ⟨by linarith, by linarith⟩
    simp only [k3, k4, and_self, not_true, not_false_eq_true, if_true, if_false]; simp
  rw [if_neg e0] at hj
  have he' : e ≤ M := hMe.resolve_left fun h => e0 (by linarith)
  by_cases e1 : b1 = M
  · rw [if_pos e1] at hj
    subst hj e1 hs
    have k3 : (-e < b0 + b1 + b2 - b1 ∧ -e < b0 + b1) := ⟨by linarith, by linarith⟩
    have k4 : (-e < b0 + b1 - b1 ∧ -e < b0) := ⟨by linarith, by linarith⟩
    simp only [k3, k4, and_self, not_true, not_false_eq_true, if_true, if_false]; simp
  rw [if_neg e1] at hj
  by_cases e2 : b2 = M
  · rw [if_pos e2] at hj
    subst hj e2 hs
    have k3 : (-e < b0 + b1 + b2 - b2 ∧ -e < b0 + b1) := ⟨by linarith, by linarith⟩
    have k4 : ¬ (-e < b0 + b1 - b2 ∧ -e < b0) := fun h => by linarith [h.1]
    simp only [k3, k4, and_self, not_true, not_false_eq_true, if_true, if_false]; simp
  rw [if_neg e2] at hj
  have e3 := hM e0 e1 e2
  subst hj e3 hs
  have k3 : ¬ (-e < b0 + b1 + b2 - b3 ∧ -e < b0 + b1) := fun h => by linarith [h.1]
  simp only [k3, not_false_eq_true, if_true]; simp

/-- The choice where no magnitude is half of the total `2·h`. -/
theorem choice_even (b0 b1 b2 b3 h t : ℝ) (h0 : 0 ≤ b0) (h1 : 0 ≤ b1) (h2 : 0 ≤ b2) (h3 : 0 ≤ b3) (m0 : b0 < h) (m1 : b1 < h)
    (m2 : b2 < h) (m3 : b3 < h) (hh : b0 + b1 + b2 + b3 = 2 * h) (ht : 0 ≤ t) (htr : t < h) (f s : ℕ)
    (hf : f = min 2 ((if b0 ≤ t then 1 else 0) + (if b0 + b1 ≤ t then 1 else 0) + (if b0 + b1 + b2 ≤ t then 1 else 0)))
    (hs : s = min 3 (max ((if b0 ≤ t + h then 1 else 0) + (if b0 + b1 ≤ t + h then 1 else 0) + (if b0 + b1 + b2 ≤ t + h then 1 else 0)) (f + 1))) :
    f = (if b0 + b1 ≤ t then 2 else if b0 ≤ t then 1 else 0)
    ∧ s = (if min (b0 + b1 + b2 - h) (b0 + b1) ≤ t then 3 else if min (b0 + b1 - h) b0 ≤ t then 2 else 1) := by
  have k1 : ¬ b0 + b1 + b2 ≤ t := by linarith
  have k2 : b0 ≤ t + h := by linarith
  simp only [k1, k2, if_true, if_false] at hf hs
  simp only [min_le_iff, sub_le_iff_le_add]
  subst hs hf
  by_cases g1 : b0 ≤ t <;> by_cases g2 : b0 + b1 ≤ t <;> by_cases g3 : b0 + b1 ≤ t + h <;> by_cases g4 : b0 + b1 + b2 ≤ t + h <;>
    first
      | (exfalso; linarith)
      | simp [g1, g2, g3, g4]

/-! ## A group of the input -/

section group
variable {a : Fin 4 → ℝ} {u : ℝ}

/-- No magnitude exceeds the largest. -/
theorem abs_le_top (k : Fin 4) : |a k| ≤ top a := by
  unfold top
  fin_cases k
  · exact (le_max_left _ _).trans (le_max_left _ _)
  · exact (le_max_right _ _).trans (le_max_left _ _)
  · exact (le_max_left _ _).trans (le_max_right _ _)
  · exact (le_max_right _ _).trans (le_max_right _ _)

/-- Some entry has the largest magnitude. -/
theorem exists_top : ∃ k : Fin 4, |a k| = top a := by
  unfold top
  rcases max_choice (max |a 0| |a 1|) (max |a 2| |a 3|) with h | h <;> rw [h]
  · rcases max_choice |a 0| |a 1| with h | h <;> rw [h]
    exacts [⟨0, rfl⟩, ⟨1, rfl⟩]
  · rcases max_choice |a 2| |a 3| with h | h <;> rw [h]
    exacts [⟨2, rfl⟩, ⟨3, rfl⟩]

/-- If none of the first three entries has the largest magnitude, the last one has it. -/
theorem top_last (h0 : ¬ |a 0| = top a) (h1 : ¬ |a 1| = top a) (h2 : ¬ |a 2| = top a) : |a 3| = top a := by
  obtain ⟨k, hk⟩ := exists_top (a := a)
  fin_cases k
  exacts [absurd hk h0, absurd hk h1, absurd hk h2, hk]

/-- The largest magnitude is not negative. -/
theorem top_nonneg : 0 ≤ top a := (abs_nonneg _).trans (abs_le_top 0)

/-- The total is the sum of the four magnitudes. -/
theorem total_def : total a = |a 0| + |a 1| + |a 2| + |a 3| := rfl

/-- What is left of the total beside the largest magnitude is not negative. -/
theorem rest_nonneg : 0 ≤ rest a := by
  obtain ⟨k, hk⟩ := exists_top (a := a)
  have := abs_nonneg (a 0); have := abs_nonneg (a 1); have := abs_nonneg (a 2); have := abs_nonneg (a 3)
  rw [rest, total_def]
  fin_cases k <;> simp only [Fin.zero_eta, Fin.mk_one, Fin.reduceFinMk] at hk <;> linarith

/-- With one entry of at least half the total, the larger kept magnitude is that entry's. -/
theorem caseC_big (h : CaseC a) : big a = top a := max_eq_left (by unfold CaseC at h; linarith)
/-- With one entry of at least half the total, the smaller kept magnitude is what is left. -/
theorem caseC_small (h : CaseC a) : small a = rest a := by rw [small, rest, caseC_big h]
/-- With no entry of half the total, the larger kept magnitude is half the total. -/
theorem even_big (h : ¬ CaseC a) : big a = half a := max_eq_right (by unfold CaseC at h; linarith)
/-- With no entry of half the total, the smaller kept magnitude is half the total. -/
theorem even_small (h : ¬ CaseC a) : small a = half a := by rw [small, even_big h, half]; ring

open Classical in
/-- The two choices agree. -/
theorem choice_eq (hu : 0 ≤ u) (hu1 : u < 1) (hok : ∀ k, Ok (a k)) :
    rlo a u = (lo a u).val ∧ rhi a u = (hi a u).val := by
  have e : (lo a u).val = (if |a 0| + |a 1| ≤ thr a u then 2 else if |a 0| ≤ thr a u then 1 else 0)
      ∧ (hi a u).val = (if min (|a 0| + |a 1| + |a 2| - big a) (|a 0| + |a 1|) ≤ thr a u then 3
          else if min (|a 0| + |a 1| - big a) |a 0| ≤ thr a u then 2 else 1) := by
    constructor
    · unfold lo L2 L1 c2; split_ifs <;> rfl
    · unfold hi H3 H2 c3 c2; split_ifs <;> rfl
  rw [e.1, e.2]
  have n0 := abs_nonneg (a 0); have n1 := abs_nonneg (a 1); have n2 := abs_nonneg (a 2); have n3 := abs_nonneg (a 3)
  by_cases hc : CaseC a
  · rw [rlo, rhi, if_pos hc, if_pos hc, thr, caseC_big hc, caseC_small hc]
    by_cases hr : rest a = 0
    · have hn : ¬ 0 < rest a := by rw [hr]; exact lt_irrefl _
      rw [if_neg hn]
      refine choice_alone _ _ _ _ _ ((2 : ℝ) ^ (-126 : ℤ)) n0 n1 n2 n3 (abs_le_top 0) (abs_le_top 1) (abs_le_top 2) (abs_le_top 3)
        top_last (by rw [← total_def]; exact hr.symm) (zpow_pos (by norm_num) _) ?_ _ _ rfl (if_pos hr)
      obtain ⟨k, hk⟩ := exists_top (a := a)
      rw [← hk]
      rcases hok k with h | h
      · left; rw [h, abs_zero]
      · right
        refine le_trans ?_ h.1
        exact zpow_le_zpow_right₀ (by norm_num) (by norm_num)
    · have hp : 0 < rest a := lt_of_le_of_ne rest_nonneg (Ne.symm hr)
      rw [if_pos hp]
      refine choice_rest _ _ _ _ _ _ (rest a) n0 n1 n2 n3 (abs_le_top 0) (abs_le_top 1) (abs_le_top 2) (abs_le_top 3)
        top_last rfl ?_ (mul_nonneg hu hp.le) (by nlinarith) _ _ rfl (by rw [sec, if_neg hr])
      unfold CaseC at hc; unfold rest; linarith
  · have hlt : ∀ k, |a k| < half a := fun k => lt_of_le_of_lt (abs_le_top k) (by unfold CaseC at hc; unfold half; linarith)
    have hp : 0 < half a := lt_of_le_of_lt n0 (hlt 0)
    rw [rlo, rhi, if_neg hc, if_neg hc, thr, even_big hc, even_small hc, if_pos hp]
    exact choice_even _ _ _ _ _ _ n0 n1 n2 n3 (hlt 0) (hlt 1) (hlt 2) (hlt 3) (by rw [← total_def, half]; ring)
      (mul_nonneg hu hp.le) (by nlinarith) _ _ rfl rfl

/-! ## The kept values -/

/-- A number is its magnitude times its sign. -/
theorem abs_mul_sgn (x : ℝ) : |x| * sgn x = x := by
  unfold sgn
  split_ifs with h h'
  · rw [abs_of_pos h, mul_one]
  · rw [abs_of_neg h']; ring
  · rw [mul_zero]; linarith

/-- The number of the largest entry is below four. -/
theorem jm_lt : jm a < 4 := by unfold jm; split_ifs <;> omega

/-- The entry of that number has the largest magnitude. -/
theorem abs_jm (j : Fin 4) (h : j.val = jm a) : |a j| = top a := by
  unfold jm at h
  split_ifs at h with h0 h1 h2
  · rw [show j = 0 from Fin.ext h]; exact h0
  · rw [show j = 1 from Fin.ext h]; exact h1
  · rw [show j = 2 from Fin.ext h]; exact h2
  · rw [show j = 3 from Fin.ext h]; exact top_last h0 h1 h2

/-- Two channels of largest magnitude, in the first case, leave that magnitude beside the first. -/
theorem rest_of_two (hc : CaseC a) {i j : Fin 4} (hij : i ≠ j) (hi : |a i| = top a) (hj : |a j| = top a) : rest a = top a := by
  have n0 := abs_nonneg (a 0); have n1 := abs_nonneg (a 1); have n2 := abs_nonneg (a 2); have n3 := abs_nonneg (a 3)
  have t := total_def (a := a)
  unfold CaseC at hc
  unfold rest
  refine le_antisymm (by linarith) ?_
  fin_cases i <;> fin_cases j <;> simp only [Fin.zero_eta, Fin.mk_one, Fin.reduceFinMk, ne_eq, not_true] at hi hj hij <;> linarith

/-- The second channel is not the largest entry's. -/
theorem sec_ne : sec a u ≠ jm a := by
  have := jm_lt (a := a)
  unfold sec
  split_ifs <;> omega

/-- In the first case one of the two channels is the first of largest magnitude, and they differ. -/
theorem caseC_pair (hu : 0 ≤ u) (hu1 : u < 1) (hok : ∀ k, Ok (a k)) (hc : CaseC a) :
    lo a u ≠ hi a u ∧ ((lo a u).val = jm a ∨ (hi a u).val = jm a) := by
  obtain ⟨e1, e2⟩ := choice_eq hu hu1 hok
  rw [rlo, if_pos hc] at e1
  rw [rhi, if_pos hc] at e2
  have := sec_ne (a := a) (u := u)
  constructor
  · intro h; have := congrArg Fin.val h; omega
  · omega

open Classical in
/-- The value kept at the lower channel, as the reference has it. -/
theorem vLo_eq (hu : 0 ≤ u) (hu1 : u < 1) (hok : ∀ k, Ok (a k)) :
    vLo a u = if CaseC a then
        (if (lo a u).val = jm a then a (lo a u) else if rest a = 0 then 0 else sgn (a (lo a u)) * rest a)
      else sgn (a (lo a u)) * half a := by
  unfold vLo
  by_cases hc : CaseC a
  · obtain ⟨hne, hjm⟩ := caseC_pair hu hu1 hok hc
    rw [if_pos hc, caseC_big hc, caseC_small hc]
    by_cases hl : (lo a u).val = jm a
    · rw [if_pos hl, if_pos (abs_jm _ hl), ← abs_jm _ hl, abs_mul_sgn]
    · rw [if_neg hl]
      have hh := abs_jm _ (hjm.resolve_left hl)
      have : (if rest a = 0 then 0 else sgn (a (lo a u)) * rest a) = sgn (a (lo a u)) * rest a := by
        split_ifs with h0
        · rw [h0, mul_zero]
        · rfl
      rw [this, mul_comm]
      split_ifs with h
      · rw [rest_of_two hc hne h hh]
      · rfl
  · rw [if_neg hc, even_big hc, even_small hc, ite_self, mul_comm]

open Classical in
/-- The value kept at the higher channel, as the reference has it. -/
theorem vHi_eq (hu : 0 ≤ u) (hu1 : u < 1) (hok : ∀ k, Ok (a k)) :
    vHi a u = if CaseC a then
        (if (hi a u).val = jm a then a (hi a u) else if rest a = 0 then 0 else sgn (a (hi a u)) * rest a)
      else sgn (a (hi a u)) * half a := by
  unfold vHi
  by_cases hc : CaseC a
  · obtain ⟨hne, hjm⟩ := caseC_pair hu hu1 hok hc
    rw [if_pos hc, caseC_big hc, caseC_small hc]
    by_cases hl : (hi a u).val = jm a
    · have hh := abs_jm _ hl
      rw [if_pos hl]
      conv_rhs => rw [← abs_mul_sgn (a (hi a u)), hh]
      split_ifs with h
      · rw [rest_of_two hc hne h hh]
      · rfl
    · rw [if_neg hl, if_pos (abs_jm _ (hjm.resolve_right hl))]
      split_ifs with h0
      · rw [h0, zero_mul]
      · rw [mul_comm]
  · rw [if_neg hc, even_big hc, even_small hc, ite_self, mul_comm]

/-- A sign is at most one in magnitude. -/
theorem abs_sgn_le (x : ℝ) : |sgn x| ≤ 1 := by unfold sgn; split_ifs <;> norm_num
/-- The sign of a number other than zero is one in magnitude. -/
theorem abs_sgn (x : ℝ) (h : x ≠ 0) : |sgn x| = 1 := by
  unfold sgn
  split_ifs with h1 h2
  · norm_num
  · norm_num
  · exact absurd (le_antisymm (not_lt.1 h1) (not_lt.1 h2)) h

/-- The smaller kept magnitude is not negative. -/
theorem small_nonneg : 0 ≤ small a := by
  by_cases hc : CaseC a
  · rw [caseC_small hc]; exact rest_nonneg
  · rw [even_small hc, half, total_def]; positivity

/-- The smaller kept magnitude is at most the larger. -/
theorem small_le_big : small a ≤ big a := by
  by_cases hc : CaseC a
  · rw [caseC_small hc, caseC_big hc]; unfold CaseC at hc; unfold rest; linarith
  · rw [even_small hc, even_big hc]

/-- The larger kept magnitude is not negative. -/
theorem big_nonneg : 0 ≤ big a := small_nonneg.trans small_le_big

/-- The value kept at the lower channel is at most the larger kept magnitude. -/
theorem abs_vLo_le : |vLo a u| ≤ big a := by
  unfold vLo
  rw [abs_mul]
  have := abs_sgn_le (a (lo a u)); have := abs_nonneg (sgn (a (lo a u)))
  have h1 : |if |a (lo a u)| = top a then big a else small a| ≤ big a := by
    split_ifs
    · rw [abs_of_nonneg big_nonneg]
    · rw [abs_of_nonneg small_nonneg]; exact small_le_big
  nlinarith [big_nonneg (a := a)]

/-- The value kept at the higher channel is at most the larger kept magnitude. -/
theorem abs_vHi_le : |vHi a u| ≤ big a := by
  unfold vHi
  rw [abs_mul]
  have := abs_sgn_le (a (hi a u)); have := abs_nonneg (sgn (a (hi a u)))
  have h1 : |if |a (lo a u)| = top a then small a else big a| ≤ big a := by
    split_ifs
    · rw [abs_of_nonneg small_nonneg]; exact small_le_big
    · rw [abs_of_nonneg big_nonneg]
  nlinarith [big_nonneg (a := a)]

/-- A magnitude times the magnitude of the sign is the magnitude. -/
theorem abs_self (x : ℝ) : |x| * |sgn x| = |x| := by rw [← abs_abs x, ← abs_mul, abs_abs, abs_mul_sgn]

/-- The larger of the two kept magnitudes is `big`. -/
theorem max_abs (hu : 0 ≤ u) (hu1 : u < 1) (hok : ∀ k, Ok (a k)) : max |vLo a u| |vHi a u| = big a := by
  refine le_antisymm (max_le abs_vLo_le abs_vHi_le) ?_
  by_cases hc : CaseC a
  · obtain ⟨hne, hjm⟩ := caseC_pair hu hu1 hok hc
    rw [caseC_big hc]
    rcases hjm with h | h
    · refine le_max_of_le_left ?_
      rw [vLo_eq hu hu1 hok, if_pos hc, if_pos h, abs_jm _ h]
    · refine le_max_of_le_right ?_
      rw [vHi_eq hu hu1 hok, if_pos hc, if_pos h, abs_jm _ h]
  · have n0 := abs_nonneg (a 0); have n1 := abs_nonneg (a 1); have n2 := abs_nonneg (a 2); have n3 := abs_nonneg (a 3)
    have hlt : ∀ k, |a k| < half a := fun k => lt_of_le_of_lt (abs_le_top k) (by unfold CaseC at hc; unfold half; linarith)
    have hp : 0 < half a := lt_of_le_of_lt n0 (hlt 0)
    have ht : thr a u = u * half a := by rw [thr, even_small hc, if_pos hp]
    have htr : u * half a < half a := by nlinarith
    have ht0 : 0 ≤ u * half a := mul_nonneg hu hp.le
    have hne : a (lo a u) ≠ 0 := by
      have hT : |a 0| + |a 1| + |a 2| + |a 3| = 2 * half a := by rw [← total_def, half]; ring
      have h3 := hlt 3
      intro h
      have h' : |a (lo a u)| = 0 := by rw [h, abs_zero]
      unfold lo L2 L1 c2 at h'
      rw [ht] at h'
      split_ifs at h' with g1 g2 <;> linarith
    refine le_max_of_le_left ?_
    rw [vLo_eq hu hu1 hok, if_neg hc, abs_mul, abs_sgn _ hne, one_mul, even_big hc]
    exact le_abs_self _

end group

end Cert.Spec

end
-- ==== Proof.Consts.lean ====
/- The float constants of both programs, as real numbers, and how a few scalar operations read on reals. -/
module

public import Idealize.ShloMosaic.Lib.Pointwise
public import proofs.«01_k».proof.Proof.Spec

@[expose] public section

set_option maxRecDepth 16384

noncomputable section

namespace Cert.Consts

open Idealize.ShloMosaic

/-- The constant that the kernel's block maximum carries. -/
def K : ℝ := 16739768 / 16777216

/-- The adjusting constant is positive. -/
theorem K_pos : 0 < K := by norm_num [K]

/-- The f32 constant of these bits, as a real. -/
theorem f32_00000000 : Ideal.ofBits .f32 0x00000000#32 = ((0 : ℝ) : EReal) := by
  simp [Ideal.ofBits, Ideal.ieee, K, -EReal.coe_mul, -EReal.coe_pow]; try norm_num

/-- The f32 constant of these bits, as a real. -/
theorem f32_3F000000 : Ideal.ofBits .f32 0x3F000000#32 = ((2⁻¹ : ℝ) : EReal) := by
  simp [Ideal.ofBits, Ideal.ieee, K, -EReal.coe_mul, -EReal.coe_pow]; try norm_num

/-- The f32 constant of these bits, as a real. -/
theorem f32_33800000 : Ideal.ofBits .f32 0x33800000#32 = ((2 ^ (-24 : ℤ) : ℝ) : EReal) := by
  simp [Ideal.ofBits, Ideal.ieee, K, -EReal.coe_mul, -EReal.coe_pow]; try norm_num

/-- The f32 constant of these bits, as a real. -/
theorem f32_80800000 : Ideal.ofBits .f32 0x80800000#32 = ((-2 ^ (-126 : ℤ) : ℝ) : EReal) := by
  simp [Ideal.ofBits, Ideal.ieee, K, -EReal.coe_mul, -EReal.coe_pow]; try norm_num

/-- The f32 constant of these bits, as a real. -/
theorem f32_3F7F6DB8 : Ideal.ofBits .f32 0x3F7F6DB8#32 = ((K : ℝ) : EReal) := by
  simp [Ideal.ofBits, Ideal.ieee, K, -EReal.coe_mul, -EReal.coe_pow]; try norm_num

/-- The f32 constant of these bits, as a real. -/
theorem f32_3F5F8001 : Ideal.ofBits .f32 0x3F5F8001#32 = ((K * (7 / 8) : ℝ) : EReal) := by
  simp [Ideal.ofBits, Ideal.ieee, K, -EReal.coe_mul, -EReal.coe_pow]; try norm_num

/-- The f32 constant of these bits, as a real. -/
theorem f32_37000000 : Ideal.ofBits .f32 0x37000000#32 = ((2 ^ (-17 : ℤ) : ℝ) : EReal) := by
  simp [Ideal.ofBits, Ideal.ieee, K, -EReal.coe_mul, -EReal.coe_pow]; try norm_num

/-- The f32 constant of these bits, as a real. -/
theorem f32_40800000 : Ideal.ofBits .f32 0x40800000#32 = ((4 : ℝ) : EReal) := by
  simp [Ideal.ofBits, Ideal.ieee, K, -EReal.coe_mul, -EReal.coe_pow]; try norm_num

/-- The f32 constant of these bits, as a real. -/
theorem f32_00800000 : Ideal.ofBits .f32 0x00800000#32 = ((2 ^ (-126 : ℤ) : ℝ) : EReal) := by
  simp [Ideal.ofBits, Ideal.ieee, K, -EReal.coe_mul, -EReal.coe_pow]; try norm_num

/-- The f32 constant of these bits, as a real. -/
theorem f32_46E00000 : Ideal.ofBits .f32 0x46E00000#32 = ((28672 : ℝ) : EReal) := by
  simp [Ideal.ofBits, Ideal.ieee, K, -EReal.coe_mul, -EReal.coe_pow]; try norm_num

/-- The f32 constant of these bits, as a real. -/
theorem f32_47600000 : Ideal.ofBits .f32 0x47600000#32 = ((57344 : ℝ) : EReal) := by
  simp [Ideal.ofBits, Ideal.ieee, K, -EReal.coe_mul, -EReal.coe_pow]; try norm_num

/-- The f32 constant of these bits, as a real. -/
theorem f32_01000000 : Ideal.ofBits .f32 0x01000000#32 = ((2 ^ (-125 : ℤ) : ℝ) : EReal) := by
  simp [Ideal.ofBits, Ideal.ieee, K, -EReal.coe_mul, -EReal.coe_pow]; try norm_num

/-- The f32 constant of these bits, as a real. -/
theorem f32_3F800000 : Ideal.ofBits .f32 0x3F800000#32 = ((1 : ℝ) : EReal) := by
  simp [Ideal.ofBits, Ideal.ieee, K, -EReal.coe_mul, -EReal.coe_pow]; try norm_num

/-- The f32 constant of these bits, as a real. -/
theorem f32_40000000 : Ideal.ofBits .f32 0x40000000#32 = ((2 : ℝ) : EReal) := by
  simp [Ideal.ofBits, Ideal.ieee, K, -EReal.coe_mul, -EReal.coe_pow]; try norm_num

/-- The f32 constant of these bits, as a real. -/
theorem f32_3E800000 : Ideal.ofBits .f32 0x3E800000#32 = ((4⁻¹ : ℝ) : EReal) := by
  simp [Ideal.ofBits, Ideal.ieee, K, -EReal.coe_mul, -EReal.coe_pow]; try norm_num

/-- The f32 constant of these bits, as a real. -/
theorem f32_7E800000 : Ideal.ofBits .f32 0x7E800000#32 = ((2 ^ (126 : ℤ) : ℝ) : EReal) := by
  simp [Ideal.ofBits, Ideal.ieee, K, -EReal.coe_mul, -EReal.coe_pow]; try norm_num

/-- The f32 constant of these bits, as a real. -/
theorem f32_5F800000 : Ideal.ofBits .f32 0x5F800000#32 = ((2 ^ 64 : ℝ) : EReal) := by
  simp [Ideal.ofBits, Ideal.ieee, K, -EReal.coe_mul, -EReal.coe_pow]; try norm_num

/-- The f32 constant of these bits, as a real. -/
theorem f32_1F800000 : Ideal.ofBits .f32 0x1F800000#32 = (((2 ^ 64)⁻¹ : ℝ) : EReal) := by
  simp [Ideal.ofBits, Ideal.ieee, K, -EReal.coe_mul, -EReal.coe_pow]; try norm_num

/-- The f32 constant of these bits, as a real. -/
theorem f32_4F800000 : Ideal.ofBits .f32 0x4F800000#32 = ((2 ^ 32 : ℝ) : EReal) := by
  simp [Ideal.ofBits, Ideal.ieee, K, -EReal.coe_mul, -EReal.coe_pow]; try norm_num

/-- The f32 constant of these bits, as a real. -/
theorem f32_2F800000 : Ideal.ofBits .f32 0x2F800000#32 = (((2 ^ 32)⁻¹ : ℝ) : EReal) := by
  simp [Ideal.ofBits, Ideal.ieee, K, -EReal.coe_mul, -EReal.coe_pow]; try norm_num

/-- The f32 constant of these bits, as a real. -/
theorem f32_47800000 : Ideal.ofBits .f32 0x47800000#32 = ((2 ^ 16 : ℝ) : EReal) := by
  simp [Ideal.ofBits, Ideal.ieee, K, -EReal.coe_mul, -EReal.coe_pow]; try norm_num

/-- The f32 constant of these bits, as a real. -/
theorem f32_37800000 : Ideal.ofBits .f32 0x37800000#32 = (((2 ^ 16)⁻¹ : ℝ) : EReal) := by
  simp [Ideal.ofBits, Ideal.ieee, K, -EReal.coe_mul, -EReal.coe_pow]; try norm_num

/-- The f32 constant of these bits, as a real. -/
theorem f32_43800000 : Ideal.ofBits .f32 0x43800000#32 = ((2 ^ 8 : ℝ) : EReal) := by
  simp [Ideal.ofBits, Ideal.ieee, K, -EReal.coe_mul, -EReal.coe_pow]; try norm_num

/-- The f32 constant of these bits, as a real. -/
theorem f32_3B800000 : Ideal.ofBits .f32 0x3B800000#32 = (((2 ^ 8)⁻¹ : ℝ) : EReal) := by
  simp [Ideal.ofBits, Ideal.ieee, K, -EReal.coe_mul, -EReal.coe_pow]; try norm_num

/-- The f32 constant of these bits, as a real. -/
theorem f32_41800000 : Ideal.ofBits .f32 0x41800000#32 = ((2 ^ 4 : ℝ) : EReal) := by
  simp [Ideal.ofBits, Ideal.ieee, K, -EReal.coe_mul, -EReal.coe_pow]; try norm_num

/-- The f32 constant of these bits, as a real. -/
theorem f32_3D800000 : Ideal.ofBits .f32 0x3D800000#32 = (((2 ^ 4)⁻¹ : ℝ) : EReal) := by
  simp [Ideal.ofBits, Ideal.ieee, K, -EReal.coe_mul, -EReal.coe_pow]; try norm_num

/-- The bf16 constant of these bits, as a real. -/
theorem bf16_7E80 : Ideal.ofBits .bf16 0x7E80#16 = ((2 ^ (126 : ℤ) : ℝ) : EReal) := by
  simp [Ideal.ofBits, Ideal.ieee, -EReal.coe_mul, -EReal.coe_pow]; try norm_num

/-- The bf16 constant of these bits, as a real. -/
theorem bf16_BF80 : Ideal.ofBits .bf16 0xBF80#16 = ((-1 : ℝ) : EReal) := by
  simp [Ideal.ofBits, Ideal.ieee, -EReal.coe_mul, -EReal.coe_pow]; try norm_num

/-- The bf16 constant of these bits, as a real. -/
theorem bf16_3F80 : Ideal.ofBits .bf16 0x3F80#16 = ((1 : ℝ) : EReal) := by
  simp [Ideal.ofBits, Ideal.ieee, -EReal.coe_mul, -EReal.coe_pow]; try norm_num

/-- The bf16 constant of these bits, as a real. -/
theorem bf16_0000 : Ideal.ofBits .bf16 0x0000#16 = ((0 : ℝ) : EReal) := by
  simp [Ideal.ofBits, Ideal.ieee, -EReal.coe_mul, -EReal.coe_pow]; try norm_num

/-- The bf16 constant of these bits, as a real. -/
theorem bf16_0D80 : Ideal.ofBits .bf16 0x0D80#16 = ((2 ^ (-100 : ℤ) : ℝ) : EReal) := by
  simp [Ideal.ofBits, Ideal.ieee, -EReal.coe_mul, -EReal.coe_pow]; try norm_num

/-- The bf16 constant of these bits, as a real. -/
theorem bf16_7180 : Ideal.ofBits .bf16 0x7180#16 = ((2 ^ (100 : ℤ) : ℝ) : EReal) := by
  simp [Ideal.ofBits, Ideal.ieee, -EReal.coe_mul, -EReal.coe_pow]; try norm_num

/-! ## Scalar operations on reals -/

/-- A choice between two reals, read as an extended real, is the chosen real. -/
theorem ite_coe (p : Prop) [Decidable p] (x y : ℝ) : (if p then (x : EReal) else (y : EReal)) = ((if p then x else y : ℝ) : EReal) := by
  split_ifs <;> rfl
/-- The maximum of two reals read as extended reals. -/
theorem max_coe (x y : ℝ) : max (x : EReal) (y : EReal) = ((max x y : ℝ) : EReal) := (EReal.coe_strictMono.monotone.map_max).symm
/-- The minimum of two reals read as extended reals. -/
theorem min_coe (x y : ℝ) : min (x : EReal) (y : EReal) = ((min x y : ℝ) : EReal) := (EReal.coe_strictMono.monotone.map_min).symm
/-- The absolute value of a real. -/
theorem absf_coe (φ : FTy) (x : ℝ) : FloatOps.absf (F := Ideal) (φ := φ) ((x : ℝ) : EReal) = ((|x| : ℝ) : EReal) := by
  show max (x : EReal) (-(x : EReal)) = _
  rw [← EReal.coe_neg, max_coe]; rfl

/-- The random number in a word. -/
theorem u_coe (w : BitVec 32) :
    FloatOps.sitofp (F := Ideal) FTy.f32 (IntOp.shrui ArithUnit.vector w 8#32) * Ideal.ofBits FTy.f32 0x33800000#32 = ((Spec.uOf w : ℝ) : EReal) := by
  rw [f32_33800000]
  show ((((IntOp.shrui ArithUnit.vector w 8#32).toInt : ℝ)) : EReal) * _ = _
  have h : IntOp.shrui ArithUnit.vector w 8#32 = w >>> 8 := by rfl
  have h' : ((w >>> 8).toInt : ℝ) = ((w >>> 8).toNat : ℝ) := by
    have : (w >>> 8).toInt = ((w >>> 8).toNat : ℤ) := by
      rw [BitVec.toInt_eq_toNat_of_lt]
      rw [BitVec.toNat_ushiftRight, Nat.shiftRight_eq_div_pow]; have := w.isLt; omega
    rw [this]; norm_cast
  rw [h, h', ← EReal.coe_mul]; rfl

open Classical in
/-- A truth value as a mask bit. -/
def bit (p : Prop) : BitVec 1 := BitVec.ofBool (decide p)

open Classical in
/-- A selection by the bit of a statement is a case distinction on the statement. -/
theorem sel_bit {α : Type} (p : Prop) (x y : α) : Scalar.select (bit p) x y = if p then x else y := by
  unfold bit; exact Scalar.select_decide p x y

/-- The comparison `≤` of two reals is the bit of their comparison. -/
theorem bit_le (x y : ℝ) : BitVec.ofBool (decide ((x : EReal) ≤ (y : EReal))) = bit (x ≤ y) := by
  unfold bit; simp only [EReal.coe_le_coe_iff]

end Cert.Consts
end
-- ==== Proof.KernelGroup.lean ====
/- What the kernel computes at one lane, from the four entries `a` of the lane's group and its random word: the named
   functions of a tile, read at a row and a lane, are the group's functions over the reals. -/
module

public import proofs.«01_k».proof.Proof.KernelTile
public import proofs.«01_k».proof.Proof.Choice
public import proofs.«01_k».proof.Proof.Consts
public import Idealize.ShloMosaic.Lib.Pointwise

@[expose] public section

set_option maxRecDepth 16384

noncomputable section

namespace Cert.KernelIdeal.Tile

open Cert.KernelIdeal Cert.KernelIdeal.Gen Idealize.ShloMosaic Idealize.ShloMosaic.TcCoe Idealize.ShloMosaic.Tactic Cert.Consts

variable {pd pi : Vec Ideal S512x512 .bf16} {x : Vec Ideal S128x512 .bf16} {w : Vec Ideal S128x128 .i32} {r q : Fin 128}
  {a : Fin 4 → ℝ} {u : ℝ}

/-- The four entries of the group at a row and a lane, and its random number. -/
structure Group (pd : Vec Ideal S512x512 .bf16) (x : Vec Ideal S128x512 .bf16) (w : Vec Ideal S128x128 .i32) (r q : Fin 128)
    (a : Fin 4 → ℝ) (u : ℝ) : Prop where
  e0 : k0_pay4 x pd (ix2 r q) = ((a 0 : ℝ) : EReal)
  e1 : k0_pay5 x pd (ix2 r q) = ((a 1 : ℝ) : EReal)
  e2 : k0_pay6 x pd (ix2 r q) = ((a 2 : ℝ) : EReal)
  e3 : k0_pay7 x pd (ix2 r q) = ((a 3 : ℝ) : EReal)
  eu : u = Spec.uOf (w (ix2 r q))
  ok : ∀ k, Spec.Ok (a k)

namespace Group
variable (g : Group pd x w r q a u)
include g

/-- The magnitude of the group's first entry. -/
theorem abs0 : k0_pay8 x pd (ix2 r q) = ((|a 0| : ℝ) : EReal) := by
  pointwise [k0_pay8]; rw [g.e0, absf_coe]
/-- The magnitude of the group's second entry. -/
theorem abs1 : k0_pay9 x pd (ix2 r q) = ((|a 1| : ℝ) : EReal) := by
  pointwise [k0_pay9]; rw [g.e1, absf_coe]
/-- The magnitude of the group's third entry. -/
theorem abs2 : k0_pay10 x pd (ix2 r q) = ((|a 2| : ℝ) : EReal) := by
  pointwise [k0_pay10]; rw [g.e2, absf_coe]
/-- The magnitude of the group's fourth entry. -/
theorem abs3 : k0_pay11 x pd (ix2 r q) = ((|a 3| : ℝ) : EReal) := by
  pointwise [k0_pay11]; rw [g.e3, absf_coe]
/-- The sum of the first two magnitudes. -/
theorem c2 : k0_pay12 x pd (ix2 r q) = ((Spec.c2 a : ℝ) : EReal) := by
  pointwise [k0_pay12]; rw [g.abs0, g.abs1, ← EReal.coe_add]; rfl
/-- The sum of the first three magnitudes. -/
theorem c3 : k0_pay13 x pd (ix2 r q) = ((Spec.c3 a : ℝ) : EReal) := by
  pointwise [k0_pay13]; rw [g.c2, g.abs2, ← EReal.coe_add]; rfl
/-- The sum of the four magnitudes. -/
theorem total : k0_pay14 x pd (ix2 r q) = ((Spec.total a : ℝ) : EReal) := by
  pointwise [k0_pay14]; rw [g.c3, g.abs3, ← EReal.coe_add]; rfl
/-- The largest magnitude. -/
theorem top : k0_pay15 x pd (ix2 r q) = ((Spec.top a : ℝ) : EReal) := by
  pointwise [k0_pay15]; rw [g.abs0, g.abs1, g.abs2, g.abs3, max_coe, max_coe, max_coe]; rfl
/-- The larger kept magnitude. -/
theorem big : Tile.big pd x (ix2 r q) = ((Spec.big a : ℝ) : EReal) := by
  pointwise [Tile.big, k0_pay16]; rw [g.top, g.total, f32_3F000000, ← EReal.coe_mul, max_coe, Spec.big, one_div]
/-- The smaller kept magnitude. -/
theorem small : Tile.small pd x (ix2 r q) = ((Spec.small a : ℝ) : EReal) := by
  have h := g.big
  unfold Tile.big at h
  pointwise [Tile.small, k0_pay17]; rw [g.total, h, ← EReal.coe_sub]; rfl
/-- The threshold. -/
theorem thr : Tile.thr pd x w (ix2 r q) = ((Spec.thr a u : ℝ) : EReal) := by
  have h := g.small
  unfold Tile.small at h
  pointwise [Tile.thr, k0_pay18]
  rw [h, u_coe, f32_80800000, ← EReal.coe_mul, ite_coe, ← g.eu]
  simp only [EReal.coe_pos]; rfl
/-- The bit "the lower channel is at least 1". -/
theorem l1 : Tile.l1 pd x w (ix2 r q) = bit (Spec.L1 a u) := by
  have h := g.thr
  unfold Tile.thr at h
  pointwise [Tile.l1, k0_pay19]; rw [h, g.abs0, bit_le]; rfl
/-- The bit "the lower channel is 2". -/
theorem l2 : Tile.l2 pd x w (ix2 r q) = bit (Spec.L2 a u) := by
  have h := g.thr
  unfold Tile.thr at h
  pointwise [Tile.l2, k0_pay20]; rw [h, g.c2, bit_le]; rfl
/-- The bit "the higher channel is at least 2". -/
theorem h2 : Tile.h2 pd x w (ix2 r q) = bit (Spec.H2 a u) := by
  pointwise [Tile.h2, k0_pay21]; rw [g.thr, g.c2, g.big, g.abs0, ← EReal.coe_sub, min_coe, bit_le]; rfl
/-- The bit "the higher channel is 3". -/
theorem h3 : Tile.h3 pd x w (ix2 r q) = bit (Spec.H3 a u) := by
  pointwise [Tile.h3, k0_pay22]; rw [g.thr, g.c2, g.c3, g.big, ← EReal.coe_sub, min_coe, bit_le]; rfl

/-- The entry at the lower kept channel. -/
theorem aLo : Tile.aLo pd x w (ix2 r q) = ((a (Spec.lo a u) : ℝ) : EReal) := by
  pointwise [Tile.aLo, k0_pay25, k0_pay24, k0_pay23]
  rw [g.l1, g.l2, sel_bit, sel_bit, g.e0, g.e1, g.e2]
  unfold Spec.lo
  split_ifs <;> rfl

/-- The entry at the higher kept channel. -/
theorem aHi : Tile.aHi pd x w (ix2 r q) = ((a (Spec.hi a u) : ℝ) : EReal) := by
  have h2 := g.h2
  have h3 := g.h3
  unfold Tile.h2 at h2
  unfold Tile.h3 at h3
  pointwise [Tile.aHi, k0_pay26, k0_pay24, k0_pay23]
  rw [h2, h3, sel_bit, sel_bit, g.e1, g.e2, g.e3]
  unfold Spec.hi
  split_ifs <;> rfl

end Group

end Cert.KernelIdeal.Tile
end
-- ==== Proof.Search.lean ====
/- The search for a block's scale, over the reals: it ends at the smallest power of two `s` with `x < 57344·s`. -/
module

public import proofs.«01_k».proof.Proof.Choice
public import proofs.«01_k».proof.Proof.Consts

@[expose] public section

noncomputable section

namespace Cert.Search

open Cert.Spec Cert.Consts

variable (x : ℝ)

/-- One step of the search: multiply by `p` where that stays within `x / 28672`. -/
def up (p s : ℝ) : ℝ := if K * (s * 28672) ≤ K * x * p⁻¹ then s * p else s
/-- Where the search starts. -/
def s0 : ℝ := if K * (7 / 8) ≤ K * x * 2 ^ (-17 : ℤ) then 4 else 2 ^ (-126 : ℤ)
/-- The candidate after the step by 2^64. -/
def s1 : ℝ := up x (2 ^ 64) (s0 x)
/-- The candidate after the step by 2^32. -/
def s2 : ℝ := up x (2 ^ 32) (s1 x)
/-- The candidate after the step by 2^16. -/
def s3 : ℝ := up x (2 ^ 16) (s2 x)
/-- The candidate after the step by 2^8. -/
def s4 : ℝ := up x (2 ^ 8) (s3 x)
/-- The candidate after the step by 2^4. -/
def s5 : ℝ := up x (2 ^ 4) (s4 x)
/-- The candidate after the step by 4. -/
def s6 : ℝ := up x 4 (s5 x)
/-- The candidate after the step by 2. -/
def s7 : ℝ := up x 2 (s6 x)
/-- Where it ends. -/
def found : ℝ := if s7 x < 2 ^ (-125 : ℤ) then 1 else s7 x

/-- What every step keeps, with `n` the logarithm of the factor still to find. -/
def Inv (n : ℕ) (s : ℝ) : Prop := ∃ e : ℤ, s = 2 ^ e ∧ -126 ≤ e ∧ 28672 * s ≤ x ∧ x < 28672 * s * 2 ^ n

variable {x}

/-- A step's test, with the adjusting constant and the division cancelled. -/
theorem up_iff {p s : ℝ} (hp : 0 < p) : K * (s * 28672) ≤ K * x * p⁻¹ ↔ 28672 * s * p ≤ x := by
  have hK := K_pos
  rw [← div_eq_mul_inv, le_div_iff₀ hp, show K * (s * 28672) * p = K * (28672 * s * p) by ring, mul_le_mul_iff_right₀ hK]

/-- A step by half of the logarithm still to find keeps the invariant, with the other half still to find. -/
theorem Inv.up {m : ℕ} {s : ℝ} (h : Inv x m s) (n : ℕ) (p : ℝ) (hm : m = n + n) (hp : p = 2 ^ n) : Inv x n (up x p s) := by
  subst hm hp
  obtain ⟨e, rfl, he, hl, hu⟩ := h
  unfold Search.up
  simp only [up_iff (pow_pos (two_pos : (0 : ℝ) < 2) n)]
  split_ifs with c
  · refine ⟨e + n, ?_, by omega, by linarith, ?_⟩
    · rw [zpow_add₀ (by norm_num), zpow_natCast]
    · rw [pow_add] at hu; linarith
  · exact ⟨e, rfl, he, hl, not_le.1 c⟩

/-- The invariant holds where the search starts. -/
theorem Inv.s0 (h0 : (2 : ℝ) ^ (-100 : ℤ) ≤ x) (h1 : x ≤ (2 : ℝ) ^ (102 : ℤ)) : Inv x 128 (s0 x) := by
  have hK := K_pos
  have e : K * (7 / 8) ≤ K * x * 2 ^ (-17 : ℤ) ↔ 28672 * 4 ≤ x := by
    rw [mul_assoc, mul_le_mul_iff_right₀ hK, show (2 : ℝ) ^ (-17 : ℤ) = (131072)⁻¹ by norm_num, ← div_eq_mul_inv, le_div_iff₀ (by norm_num)]
    norm_num
  unfold Search.s0
  simp only [e]
  split_ifs with c
  · refine ⟨2, by norm_num, by omega, c, lt_of_le_of_lt h1 ?_⟩
    norm_num
  · refine ⟨-126, rfl, by omega, le_trans ?_ h0, lt_of_lt_of_le (not_le.1 c) ?_⟩
    · norm_num
    · norm_num

/-- The search finds the scale. -/
theorem found_isScale (h : x = 0 ∨ (2 : ℝ) ^ (-100 : ℤ) ≤ x ∧ x ≤ (2 : ℝ) ^ (102 : ℤ)) : IsScale x (found x) := by
  rcases h with rfl | ⟨h0, h1⟩
  · left
    refine ⟨rfl, ?_⟩
    have hK := K_pos
    have e0 : s0 0 = 2 ^ (-126 : ℤ) := by
      unfold s0; rw [if_neg]; rw [mul_zero, zero_mul, not_le]; positivity
    have e : ∀ p : ℝ, Search.up 0 p (2 ^ (-126 : ℤ)) = 2 ^ (-126 : ℤ) := fun p => by
      unfold Search.up; rw [if_neg]; rw [mul_zero, zero_mul, not_le]; positivity
    unfold found s7 s6 s5 s4 s3 s2 s1
    rw [e0, e, e, e, e, e, e, e, if_pos]
    exact zpow_lt_zpow_right₀ (by norm_num) (by norm_num)
  · right
    have i' : Inv x 1 (s7 x) := ((((((((Inv.s0 h0 h1).up 64 _ rfl rfl).up 32 _ rfl rfl).up 16 _ rfl rfl).up 8 _ rfl rfl).up 4 _ rfl rfl).up 2 4 rfl
      (by norm_num)).up 1 2 rfl (by norm_num))
    obtain ⟨e, he, hb, hl, hu⟩ := i'
    have hx : x ≠ 0 := by rintro rfl; exact absurd h0 (not_le.2 (by positivity))
    refine ⟨hx, e, hb, ?_, ?_, ?_, ?_⟩
    · by_contra hc
      have : (2 : ℝ) ^ (128 : ℤ) ≤ 2 ^ e := zpow_le_zpow_right₀ (by norm_num) (by omega)
      have h2 : (2 : ℝ) ^ (102 : ℤ) < 2 ^ (128 : ℤ) := zpow_lt_zpow_right₀ (by norm_num) (by norm_num)
      rw [he] at hl
      linarith [zpow_pos (by norm_num : (0 : ℝ) < 2) e]
    all_goals
      have hf : found x = s7 x := by
        unfold found
        rw [if_neg]
        intro hlt
        have : (2 : ℝ) ^ (-100 : ℤ) < 57344 * 2 ^ (-125 : ℤ) := by linarith
        norm_num at this
      rw [hf]
    · exact he
    · exact hl
    · linarith

end Cert.Search
end
-- ==== Proof.KernelScale.lean ====
/- The kernel's search for a block's scale, at one lane: from the block's largest magnitude `y` times the adjusting constant
   it computes the scale of `y` and its inverse. -/
module

public import proofs.«01_k».proof.Proof.KernelTile
public import proofs.«01_k».proof.Proof.Search
public import Idealize.ShloMosaic.Lib.Pointwise

@[expose] public section

set_option maxRecDepth 16384

noncomputable section

namespace Cert.KernelIdeal.Tile

open Cert.KernelIdeal Cert.KernelIdeal.Gen Idealize.ShloMosaic Idealize.ShloMosaic.TcCoe Idealize.ShloMosaic.Tactic Cert.Consts Cert.Search

variable {M : T32 Ideal} {r q : Fin 128} {y : ℝ}

/-- The inverse after one step. -/
theorem inv_up (p s : ℝ) : (if K * (s * 28672) ≤ K * y * p⁻¹ then s⁻¹ * p⁻¹ else s⁻¹) = (up y p s)⁻¹ := by
  unfold up
  split_ifs
  · rw [mul_inv]
  · rfl

/-- The inverse after one step, as an extended real. -/
theorem inv_up' (p s : ℝ) : (if K * (s * 28672) ≤ K * y * p⁻¹ then ((s⁻¹ * p⁻¹ : ℝ) : EReal) else ((s⁻¹ : ℝ) : EReal)) = (((up y p s)⁻¹ : ℝ) : EReal) := by
  rw [← inv_up, ite_coe]

/-- The candidate after one step, as an extended real. -/
theorem up' (p s : ℝ) : (if K * (s * 28672) ≤ K * y * p⁻¹ then ((s * p : ℝ) : EReal) else (s : EReal)) = ((up y p s : ℝ) : EReal) := by
  rw [ite_coe]; rfl

/-- The step by 2^64, named. -/
theorem e1 : up y (2 ^ 64) (s0 y) = s1 y := rfl
/-- The step by 2^32, named. -/
theorem e2 : up y (2 ^ 32) (s1 y) = s2 y := rfl
/-- The step by 2^16, named. -/
theorem e3 : up y (2 ^ 16) (s2 y) = s3 y := rfl
/-- The step by 2^8, named. -/
theorem e4 : up y (2 ^ 8) (s3 y) = s4 y := rfl
/-- The step by 2^4, named. -/
theorem e5 : up y (2 ^ 4) (s4 y) = s5 y := rfl
/-- The step by 4, named. -/
theorem e6 : up y 4 (s5 y) = s6 y := rfl
/-- The step by 2, named. -/
theorem e7 : up y 2 (s6 y) = s7 y := rfl

section first
variable {cst : Ideal .f32} (h : M (ix2 r q) = ((K * y : ℝ) : EReal)) (hc : cst = ((2 ^ (-17 : ℤ) : ℝ) : EReal))
include h hc

/-- The test at the start of the search. -/
theorem p30 : k0_pay30 M cst (ix2 r q) = bit (K * (7 / 8) ≤ K * y * 2 ^ (-17 : ℤ)) := by
  pointwise [k0_pay30]
  rw [h, hc, f32_3F5F8001, ← EReal.coe_mul, bit_le]
/-- The candidate at the start. -/
theorem p31 : k0_pay31 M cst (ix2 r q) = ((s0 y : ℝ) : EReal) := by
  have := p30 h hc
  pointwise [k0_pay31]
  rw [this, sel_bit, f32_40800000, f32_00800000, ite_coe]; unfold s0; congr
/-- The test of the step by 2^64. -/
theorem p32 : k0_pay32 M cst (ix2 r q) = bit (K * (s0 y * 28672) ≤ K * y * (2 ^ 64)⁻¹) := by
  have := p31 h hc
  pointwise [k0_pay32]
  rw [h, this, f32_46E00000, f32_1F800000, f32_3F7F6DB8]; rw [← EReal.coe_mul, ← EReal.coe_mul, ← EReal.coe_mul, bit_le]
/-- The candidate after the step by 2^64. -/
theorem p33 : k0_pay33 M cst (ix2 r q) = ((s1 y : ℝ) : EReal) := by
  have h1 := p31 h hc
  have h2 := p32 h hc
  pointwise [k0_pay33]
  rw [h1, h2, f32_5F800000, ← EReal.coe_mul, sel_bit, up']; rfl
/-- The test of the step by 2^32. -/
theorem p34 : k0_pay34 M cst (ix2 r q) = bit (K * (s1 y * 28672) ≤ K * y * (2 ^ 32)⁻¹) := by
  have := p33 h hc
  pointwise [k0_pay34]
  rw [h, this, f32_46E00000, f32_2F800000, f32_3F7F6DB8]; rw [← EReal.coe_mul, ← EReal.coe_mul, ← EReal.coe_mul, bit_le]
/-- The candidate after the step by 2^32. -/
theorem p35 : k0_pay35 M cst (ix2 r q) = ((s2 y : ℝ) : EReal) := by
  have h1 := p33 h hc
  have h2 := p34 h hc
  pointwise [k0_pay35]
  rw [h1, h2, f32_4F800000, ← EReal.coe_mul, sel_bit, up']; rfl
/-- The inverse after the step by 2^32. -/
theorem p36 : k0_pay36 M cst (ix2 r q) = (((s2 y)⁻¹ : ℝ) : EReal) := by
  have h1 := p30 h hc
  have h2 := p32 h hc
  have h3 := p34 h hc
  pointwise [k0_pay36]
  have h0 : (if K * (7 / 8) ≤ K * y * 2 ^ (-17 : ℤ) then ((4⁻¹ : ℝ) : EReal) else ((2 ^ (126 : ℤ) : ℝ) : EReal)) = (((s0 y)⁻¹ : ℝ) : EReal) := by
    rw [ite_coe]; unfold s0; split_ifs
    · rfl
    · rw [← zpow_neg]; norm_num
  rw [h1, h2, h3, f32_3E800000, f32_7E800000, sel_bit, sel_bit, sel_bit, h0, f32_1F800000, f32_2F800000]
  simp only [← EReal.coe_mul, inv_up', e1, e2, e3, e4, e5, e6, e7]
/-- The left side of the test of the step by 2^16. -/
theorem p37 : k0_pay37 M (ix2 r q) = ((K * y * (2 ^ 16)⁻¹ : ℝ) : EReal) := by
  pointwise [k0_pay37]; rw [h, f32_37800000, ← EReal.coe_mul]
/-- The right side of the test of the step by 2^16. -/
theorem p38 : k0_pay38 M cst (ix2 r q) = ((K * (s2 y * 28672) : ℝ) : EReal) := by
  have h1 := p35 h hc
  pointwise [k0_pay38]; rw [h1, f32_46E00000, f32_3F7F6DB8]; simp only [← EReal.coe_mul]

end first

section second
variable {v184 v187 v189 v193 : T32 Ideal} (h : M (ix2 r q) = ((K * y : ℝ) : EReal)) (h184 : v184 (ix2 r q) = ((s2 y : ℝ) : EReal))
  (h189 : v189 (ix2 r q) = ((K * y * (2 ^ 16)⁻¹ : ℝ) : EReal)) (h193 : v193 (ix2 r q) = ((K * (s2 y * 28672) : ℝ) : EReal))
include h h184 h189 h193

/-- The test of the step by 2^16. -/
theorem p39 : k0_pay39 v189 v193 (ix2 r q) = bit (K * (s2 y * 28672) ≤ K * y * (2 ^ 16)⁻¹) := by
  pointwise [k0_pay39]; rw [h189, h193, bit_le]
/-- The candidate after the step by 2^16. -/
theorem p40 : k0_pay40 v184 v189 v193 (ix2 r q) = ((s3 y : ℝ) : EReal) := by
  have h1 := p39 h h184 h189 h193
  pointwise [k0_pay40]
  rw [h1, h184, f32_47800000, ← EReal.coe_mul, sel_bit, up']; rfl
/-- The test of the step by 2^8. -/
theorem p41 : k0_pay41 M v184 v189 v193 (ix2 r q) = bit (K * (s3 y * 28672) ≤ K * y * (2 ^ 8)⁻¹) := by
  have := p40 h h184 h189 h193
  pointwise [k0_pay41]
  rw [h, this, f32_46E00000, f32_3B800000, f32_3F7F6DB8]; rw [← EReal.coe_mul, ← EReal.coe_mul, ← EReal.coe_mul, bit_le]
/-- The candidate after the step by 2^8. -/
theorem p42 : k0_pay42 M v184 v189 v193 (ix2 r q) = ((s4 y : ℝ) : EReal) := by
  have h1 := p40 h h184 h189 h193
  have h2 := p41 h h184 h189 h193
  pointwise [k0_pay42]
  rw [h1, h2, f32_43800000, ← EReal.coe_mul, sel_bit, up']; rfl
/-- The test of the step by 2^4. -/
theorem p43 : k0_pay43 M v184 v189 v193 (ix2 r q) = bit (K * (s4 y * 28672) ≤ K * y * (2 ^ 4)⁻¹) := by
  have := p42 h h184 h189 h193
  pointwise [k0_pay43]
  rw [h, this, f32_46E00000, f32_3D800000, f32_3F7F6DB8]; rw [← EReal.coe_mul, ← EReal.coe_mul, ← EReal.coe_mul, bit_le]
/-- The candidate after the step by 2^4. -/
theorem p44 : k0_pay44 M v184 v189 v193 (ix2 r q) = ((s5 y : ℝ) : EReal) := by
  have h1 := p42 h h184 h189 h193
  have h2 := p43 h h184 h189 h193
  pointwise [k0_pay44]
  rw [h1, h2, f32_41800000, ← EReal.coe_mul, sel_bit, up']; rfl
/-- The inverse after the step by 2^4. -/
theorem p45 (h187 : v187 (ix2 r q) = (((s2 y)⁻¹ : ℝ) : EReal)) : k0_pay45 M v184 v187 v189 v193 (ix2 r q) = (((s5 y)⁻¹ : ℝ) : EReal) := by
  have h1 := p39 h h184 h189 h193
  have h2 := p41 h h184 h189 h193
  have h3 := p43 h h184 h189 h193
  pointwise [k0_pay45]
  rw [h1, h2, h3, h187, sel_bit, sel_bit, sel_bit, f32_37800000, f32_3B800000, f32_3D800000]
  simp only [← EReal.coe_mul, inv_up', e1, e2, e3, e4, e5, e6, e7]
/-- The test of the step by 4. -/
theorem p46 : k0_pay46 M v184 v189 v193 (ix2 r q) = bit (K * (s5 y * 28672) ≤ K * y * 4⁻¹) := by
  have := p44 h h184 h189 h193
  pointwise [k0_pay46]
  rw [h, this, f32_46E00000, f32_3E800000, f32_3F7F6DB8]; rw [← EReal.coe_mul, ← EReal.coe_mul, ← EReal.coe_mul, bit_le]
/-- The candidate after the step by 4. -/
theorem p47 : k0_pay47 M v184 v189 v193 (ix2 r q) = ((s6 y : ℝ) : EReal) := by
  have h1 := p44 h h184 h189 h193
  have h2 := p46 h h184 h189 h193
  pointwise [k0_pay47]
  rw [h1, h2, f32_40800000, ← EReal.coe_mul, sel_bit, up']; rfl

end second

section third
variable {v226 v236 : T32 Ideal} {v233 : IVec S128x128 1} {cst : Ideal .f32} (h : M (ix2 r q) = ((K * y : ℝ) : EReal))
  (h236 : v236 (ix2 r q) = ((s6 y : ℝ) : EReal))
include h h236

/-- The test of the step by 2. -/
theorem p48 : k0_pay48 M v236 (ix2 r q) = bit (K * (s6 y * 28672) ≤ K * y * 2⁻¹) := by
  pointwise [k0_pay48]
  rw [h, h236, f32_46E00000, f32_3F000000, f32_3F7F6DB8]; rw [← EReal.coe_mul, ← EReal.coe_mul, ← EReal.coe_mul, bit_le]
/-- The candidate after the step by 2. -/
theorem p49 : k0_pay49 M v236 (ix2 r q) = ((s7 y : ℝ) : EReal) := by
  have h2 := p48 h h236
  pointwise [k0_pay49]
  rw [h236, h2, f32_40000000, ← EReal.coe_mul, sel_bit, up']; rfl
/-- The test whether the candidate is tiny. -/
theorem p50 : k0_pay50 M v236 (ix2 r q) = bit (s7 y < 2 ^ (-125 : ℤ)) := by
  have h2 := p49 h h236
  pointwise [k0_pay50]
  rw [h2, f32_01000000]; unfold bit; simp only [EReal.coe_lt_coe_iff]
/-- The scale: the candidate, or 1 where that is tiny. -/
theorem p51 : k0_pay51 M v236 (ix2 r q) = ((found y : ℝ) : EReal) := by
  have h1 := p49 h h236
  have h2 := p50 h h236
  pointwise [k0_pay51]
  rw [h1, h2, ← EReal.coe_one, sel_bit, ite_coe]; unfold found; congr
/-- The inverse of the scale. -/
theorem p52 (h226 : v226 (ix2 r q) = (((s5 y)⁻¹ : ℝ) : EReal)) (h233 : v233 (ix2 r q) = bit (K * (s5 y * 28672) ≤ K * y * 4⁻¹))
    (hc : cst = ((4⁻¹ : ℝ) : EReal)) : k0_pay52 M v226 v233 v236 cst (ix2 r q) = (((found y)⁻¹ : ℝ) : EReal) := by
  have h1 := p48 h h236
  have h2 := p50 h h236
  pointwise [k0_pay52]
  rw [h1, h2, h226, h233, hc, ← EReal.coe_one, f32_3F000000, sel_bit, sel_bit, sel_bit]
  simp only [← EReal.coe_mul, inv_up', e1, e2, e3, e4, e5, e6, e7]
  rw [ite_coe]
  unfold found
  split_ifs
  · rw [inv_one]
  · rfl

end third

variable (h : M (ix2 r q) = ((K * y : ℝ) : EReal))
include h

/-- The candidate after the step by 4, all steps before it put together. -/
theorem sc6_eq : sc6 M (ix2 r q) = ((s6 y : ℝ) : EReal) := by
  have hc : (c0 : Ideal .f32) = _ := f32_37000000
  exact p47 h (p35 h hc) (p37 h hc) (p38 h hc)
/-- The scale. -/
theorem scOf_eq : scOf M (ix2 r q) = ((found y : ℝ) : EReal) := p51 h (sc6_eq h)
/-- Its inverse. -/
theorem invOf_eq : invOf M (ix2 r q) = (((found y)⁻¹ : ℝ) : EReal) := by
  have hc : (c0 : Ideal .f32) = _ := f32_37000000
  exact p52 h (sc6_eq h) (p45 h (p35 h hc) (p37 h hc) (p38 h hc) (p36 h hc)) (p46 h (p35 h hc) (p37 h hc) (p38 h hc)) f32_3E800000

end Cert.KernelIdeal.Tile
end
-- ==== Proof.Block.lean ====
/- A block of 32 groups: its largest kept magnitude, its scale, and the rounds of neighbour exchange by which 128 lanes
   find the maxima of their blocks of 32. -/
module

public import proofs.«01_k».proof.Proof.Choice
public import proofs.«01_k».proof.Proof.Search

@[expose] public section

noncomputable section

namespace Cert.Spec

/-- If a group's entries are in the domain, its larger kept magnitude is zero or of moderate size. -/
theorem big_ok {a : Fin 4 → ℝ} (hok : ∀ k, Ok (a k)) : big a = 0 ∨ (2 : ℝ) ^ (-100 : ℤ) ≤ big a ∧ big a ≤ (2 : ℝ) ^ (102 : ℤ) := by
  have hle : ∀ k, |a k| ≤ big a := fun k => (abs_le_top k).trans (le_max_left _ _)
  have h4 : (2 : ℝ) ^ (102 : ℤ) = 4 * 2 ^ (100 : ℤ) := by norm_num
  have hub : ∀ k, |a k| ≤ (2 : ℝ) ^ (100 : ℤ) := fun k => by
    rcases hok k with h | h
    · rw [h, abs_zero]; positivity
    · exact h.2
  have n0 := hub 0; have n1 := hub 1; have n2 := hub 2; have n3 := hub 3
  have p : (0 : ℝ) < 2 ^ (100 : ℤ) := by positivity
  by_cases hz : ∀ k, a k = 0
  · left
    unfold big top total c3 c2
    simp [hz]
  · right
    obtain ⟨k, hk⟩ := not_forall.1 hz
    refine ⟨((hok k).resolve_left hk).1.trans (hle k), ?_⟩
    obtain ⟨j, hj⟩ := exists_top (a := a)
    refine max_le ?_ ?_
    · rw [← hj, h4]; linarith [hub j]
    · rw [total_def, h4]; linarith

section
variable {A : ℕ → Fin 4 → ℝ} {b : ℕ}

/-- If a block's entries are in the domain, its largest kept magnitude is zero or of moderate size. -/
theorem amax_ok (hok : ∀ i < 32, ∀ k, Ok (A (32 * b + i) k)) :
    amax A b = 0 ∨ (2 : ℝ) ^ (-100 : ℤ) ≤ amax A b ∧ amax A b ≤ (2 : ℝ) ^ (102 : ℤ) := by
  obtain ⟨i, hi, e⟩ := Finset.exists_mem_eq_sup' (s := Finset.range 32) ⟨0, by simp⟩ fun i => big (A (32 * b + i))
  unfold amax
  rw [e]
  exact big_ok (hok i (Finset.mem_range.1 hi))

/-- In the domain a block's scale is what the search finds. -/
theorem scale_found (hok : ∀ i < 32, ∀ k, Ok (A (32 * b + i) k)) : scale (amax A b) = Search.found (amax A b) :=
  scale_eq (Search.found_isScale (amax_ok hok))

/-- In the domain a block has a scale. -/
theorem scale_is (hok : ∀ i < 32, ∀ k, Ok (A (32 * b + i) k)) : IsScale (amax A b) (scale (amax A b)) := by
  rw [scale_found hok]; exact Search.found_isScale (amax_ok hok)

/-- No kept magnitude of a block exceeds the block's largest. -/
theorem big_le_amax (i : ℕ) (hi : i < 32) : big (A (32 * b + i)) ≤ amax A b :=
  Finset.le_sup' (fun i => big (A (32 * b + i))) (Finset.mem_range.2 hi)

/-- What is kept, over the scale, stays within the codes' range. -/
theorem over_scale (hok : ∀ i < 32, ∀ k, Ok (A (32 * b + i) k)) (i : ℕ) (hi : i < 32) {v : ℝ} (hv : v ≤ big (A (32 * b + i))) :
    v * (scale (amax A b))⁻¹ ≤ 57344 := by
  have hs := scale_is hok
  have hp := hs.pos
  rw [← div_eq_mul_inv, div_le_iff₀ hp]
  refine (hv.trans (big_le_amax i hi)).trans ?_
  rcases hs with ⟨h0, h1⟩ | ⟨_, e, _, _, _, _, hlt⟩
  · rw [h1, h0]; norm_num
  · exact hlt.le

end

/-! ## The maximum by exchange -/

/-- Lane `q` with the bits of `m` flipped. -/
def xr (m : ℕ) (q : Fin 128) : Fin 128 := ⟨(q.val ^^^ m) % 128, Nat.mod_lt _ (by norm_num)⟩

/-- One round of exchange. -/
def bf (m : ℕ) (f : Fin 128 → ℝ) (q : Fin 128) : ℝ := max (f q) (f (xr m q))

/-- All rounds. -/
def bf5 (f : Fin 128 → ℝ) : Fin 128 → ℝ := bf 1 (bf 2 (bf 4 (bf 8 (bf 16 f))))

/-- An exchange stays within a block's 32 lanes. -/
theorem xr_seg (m : ℕ) (hm : m ∈ [16, 8, 4, 2, 1]) : ∀ q : Fin 128, (xr m q).val / 32 = q.val / 32 := by
  fin_cases hm <;> decide +kernel

/-- A bound on all lanes of a block survives a round. -/
theorem bf_le {m : ℕ} (hm : m ∈ [16, 8, 4, 2, 1]) {f : Fin 128 → ℝ} {z : ℝ} {s : ℕ} (h : ∀ p : Fin 128, p.val / 32 = s → f p ≤ z) :
    ∀ p : Fin 128, p.val / 32 = s → bf m f p ≤ z := fun p hp =>
  max_le (h p hp) (h _ ((xr_seg m hm p).trans hp))

/-- The step of lane `q` towards lane `p` in the round `m`. -/
def pick (m : ℕ) (p q : Fin 128) : Fin 128 := if (q.val ^^^ p.val) &&& m = 0 then q else xr m q

/-- A round's result at a lane is at least the value of the lane itself and that of its partner. -/
theorem le_bf (m : ℕ) (f : Fin 128 → ℝ) (p q : Fin 128) : f (pick m p q) ≤ bf m f q := by
  unfold pick
  split_ifs
  · exact le_max_left _ _
  · exact le_max_right _ _

/-- Five steps lead from any lane to any other lane of its block. -/
theorem walk : ∀ p q : Fin 128, p.val / 32 = q.val / 32 → pick 16 p (pick 8 p (pick 4 p (pick 2 p (pick 1 p q)))) = p := by
  decide +kernel

/-- A bound on all lanes of a block bounds the result of the five rounds. -/
theorem bf5_le {f : Fin 128 → ℝ} {q : Fin 128} {z : ℝ} (h : ∀ p : Fin 128, p.val / 32 = q.val / 32 → f p ≤ z) : bf5 f q ≤ z :=
  bf_le (by simp) (bf_le (by simp) (bf_le (by simp) (bf_le (by simp) (bf_le (by simp) h)))) q rfl

/-- The result of the five rounds is at least the value of every lane of the block. -/
theorem le_bf5 (f : Fin 128 → ℝ) {p q : Fin 128} (h : p.val / 32 = q.val / 32) : f p ≤ bf5 f q := by
  conv_lhs => rw [← walk p q h]
  exact (le_bf _ _ p _).trans ((le_bf _ _ p _).trans ((le_bf _ _ p _).trans ((le_bf _ _ p _).trans (le_bf _ _ p _))))

/-- The rounds find the largest kept magnitude of every lane's block. -/
theorem bf5_amax (A : ℕ → Fin 4 → ℝ) (t : ℕ) (q : Fin 128) :
    bf5 (fun p => big (A (128 * t + p.val))) q = amax A ((128 * t + q.val) / 32) := by
  have e : (128 * t + q.val) / 32 = 4 * t + q.val / 32 := by omega
  refine le_antisymm (bf5_le fun p hp => ?_) (Finset.sup'_le _ _ fun i hi => ?_)
  · have := big_le_amax (A := A) (b := (128 * t + q.val) / 32) (p.val % 32) (by omega)
    rwa [show 32 * ((128 * t + q.val) / 32) + p.val % 32 = 128 * t + p.val by omega] at this
  · have hi := Finset.mem_range.1 hi
    have := le_bf5 (fun p : Fin 128 => big (A (128 * t + p.val))) (p := ⟨32 * (q.val / 32) + i, by omega⟩) (q := q) (by simp only; omega)
    refine le_trans (le_of_eq ?_) this
    simp only
    rw [show 32 * ((128 * t + q.val) / 32) + i = 128 * t + (32 * (q.val / 32) + i) by omega]

/-! ## The kept values under the scale -/

/-- In the domain a number times 2^126, clipped to [-1, 1], is its sign. -/
theorem clip_sgn {y : ℝ} (h : Ok y) : min 1 (max (-1) (y * 2 ^ (126 : ℤ))) = sgn y := by
  rcases h with h | ⟨h, _⟩
  · subst h; unfold sgn; norm_num
  · have hp : (0 : ℝ) < 2 ^ (126 : ℤ) := by positivity
    have h1 : (1 : ℝ) ≤ |y| * 2 ^ (126 : ℤ) := by
      calc (1 : ℝ) ≤ 2 ^ (-100 : ℤ) * 2 ^ (126 : ℤ) := by norm_num
        _ ≤ _ := by gcongr
    have h0 : 0 < |y| := lt_of_lt_of_le (by positivity) h
    unfold sgn
    rcases lt_trichotomy y 0 with hy | hy | hy
    · rw [abs_of_neg hy] at h1
      rw [if_neg (by linarith), if_pos hy, max_eq_left (by linarith), min_eq_right (by norm_num)]
    · rw [hy, abs_zero] at h0; exact absurd h0 (lt_irrefl _)
    · rw [abs_of_pos hy] at h1
      rw [if_pos hy, max_eq_right (by linarith), min_eq_left h1]

section
variable (A : ℕ → Fin 4 → ℝ) (u : ℕ → ℝ) (g : ℕ)

/-- The code at an even place is the lower kept value over the scale. -/
theorem code_even : code A u (2 * g) = vLo (A g) (u g) * (scl A g)⁻¹ := by
  have h1 : 2 * g / 2 = g := by omega
  have h2 : 2 * g % 2 = 0 := by omega
  unfold code
  rw [h1, if_pos h2]

/-- The code at an odd place is the higher kept value over the scale. -/
theorem code_odd : code A u (2 * g + 1) = vHi (A g) (u g) * (scl A g)⁻¹ := by
  have h1 : (2 * g + 1) / 2 = g := by omega
  have h2 : ¬ (2 * g + 1) % 2 = 0 := by omega
  unfold code
  rw [h1, if_neg h2]

end

end Cert.Spec

end
-- ==== Proof.KernelRow.lean ====
/- What the kernel computes in one row of a tile, from the row's 128 groups: the scales of the row's four blocks and the
   kept values over them. -/
module

public import proofs.«01_k».proof.Proof.KernelGroup
public import proofs.«01_k».proof.Proof.KernelScale
public import proofs.«01_k».proof.Proof.Block

@[expose] public section

set_option maxRecDepth 16384

noncomputable section

namespace Cert.KernelIdeal.Tile

open Cert.KernelIdeal Cert.KernelIdeal.Gen Idealize.ShloMosaic Idealize.ShloMosaic.TcCoe Idealize.ShloMosaic.Tactic Cert.Consts
open Cert.Spec (xr bf)

variable {v0 : IVec S8x128 32} {pd pi : Vec Ideal S512x512 .bf16} {x : Vec Ideal S128x512 .bf16} {w : Vec Ideal S128x128 .i32} {r q : Fin 128}
  {A : ℕ → Fin 4 → ℝ} {U : ℕ → ℝ} {t : ℕ}

/-! ## The exchange -/

/-- The table counts lanes. -/
def Counts (v0 : IVec S8x128 32) : Prop := ∀ q : Fin 128, v0 (ix2 0 q) = BitVec.ofNat 32 q.val

/-- The lane number that the round by 16 computes. -/
theorem lx16 : ∀ q : Fin 128, (Scalar.select (IntOp.cmpi CmpIPredicate.slt (IntOp.xori (BitVec.ofNat 32 q.val) 16#32) 0#32)
    (IntOp.addi (IntOp.xori (BitVec.ofNat 32 q.val) 16#32) 128#32) (IntOp.xori (BitVec.ofNat 32 q.val) 16#32)).toNat % 128 = (xr 16 q).val := by decide +kernel
/-- The lane number that the round by 8 computes. -/
theorem lx8 : ∀ q : Fin 128, (Scalar.select (IntOp.cmpi CmpIPredicate.slt (IntOp.xori (BitVec.ofNat 32 q.val) 8#32) 0#32)
    (IntOp.addi (IntOp.xori (BitVec.ofNat 32 q.val) 8#32) 128#32) (IntOp.xori (BitVec.ofNat 32 q.val) 8#32)).toNat % 128 = (xr 8 q).val := by decide +kernel
/-- The lane number that the round by 4 computes. -/
theorem lx4 : ∀ q : Fin 128, (Scalar.select (IntOp.cmpi CmpIPredicate.slt (IntOp.xori (BitVec.ofNat 32 q.val) 4#32) 0#32)
    (IntOp.addi (IntOp.xori (BitVec.ofNat 32 q.val) 4#32) 128#32) (IntOp.xori (BitVec.ofNat 32 q.val) 4#32)).toNat % 128 = (xr 4 q).val := by decide +kernel
/-- The lane number that the round by 2 computes. -/
theorem lx2 : ∀ q : Fin 128, (Scalar.select (IntOp.cmpi CmpIPredicate.slt (IntOp.xori (BitVec.ofNat 32 q.val) 2#32) 0#32)
    (IntOp.addi (IntOp.xori (BitVec.ofNat 32 q.val) 2#32) 128#32) (IntOp.xori (BitVec.ofNat 32 q.val) 2#32)).toNat % 128 = (xr 2 q).val := by decide +kernel
/-- The lane number that the round by 1 computes. -/
theorem lx1 : ∀ q : Fin 128, (Scalar.select (IntOp.cmpi CmpIPredicate.slt (IntOp.xori (BitVec.ofNat 32 q.val) 1#32) 0#32)
    (IntOp.addi (IntOp.xori (BitVec.ofNat 32 q.val) 1#32) 128#32) (IntOp.xori (BitVec.ofNat 32 q.val) 1#32)).toNat % 128 = (xr 1 q).val := by decide +kernel

/-- The adjusting constant comes out of a maximum. -/
theorem max_K (y z : ℝ) : max (K * y) (K * z) = K * max y z := (mul_max_of_nonneg _ _ K_pos.le).symm

/-- The first two rounds, by 16 and by 8. -/
theorem exchange1 (hv : Counts v0) {b : T32 Ideal} {f : Fin 128 → ℝ} (hb : ∀ q, b (ix2 r q) = ((f q : ℝ) : EReal)) (q : Fin 128) :
    k0_pay27 v0 b (ix2 r q) = ((K * bf 8 (bf 16 f) q : ℝ) : EReal) := by
  pointwise [k0_pay27]
  unfold Counts at hv
  simp only [hv, lx16, lx8, Fin.eta, hb, f32_3F7F6DB8]
  simp only [← EReal.coe_mul, max_coe, mul_comm _ K, max_K]
  rfl

/-- The last three rounds, by 4, 2 and 1. -/
theorem exchange2 (hv : Counts v0) {b : T32 Ideal} {f : Fin 128 → ℝ} (hb : ∀ q, b (ix2 r q) = ((K * f q : ℝ) : EReal)) (q : Fin 128) :
    k0_pay29 v0 b (k0_pay28 v0) (ix2 r q) = ((K * bf 1 (bf 2 (bf 4 f)) q : ℝ) : EReal) := by
  pointwise [k0_pay29, k0_pay28]
  unfold Counts at hv
  simp only [hv, lx4, lx2, lx1, Fin.eta, hb]
  simp only [max_coe, max_K]
  rfl

/-! ## One row -/

/-- Row `r` of the tile `t`: its groups are `128·t … 128·t+127` of the row whose groups are `A` and random numbers `U`. -/
def Row (pd : Vec Ideal S512x512 .bf16) (x : Vec Ideal S128x512 .bf16) (w : Vec Ideal S128x128 .i32) (r : Fin 128)
    (A : ℕ → Fin 4 → ℝ) (U : ℕ → ℝ) (t : ℕ) : Prop :=
  ∀ q : Fin 128, Group pd x w r q (A (128 * t + q.val)) (U (128 * t + q.val))

section row
variable (hv : Counts v0) (h : Row pd x w r A U t)
include h

/-- The entries of a lane's block are in the domain. -/
theorem Row.ok (q : Fin 128) (i : ℕ) (hi : i < 32) : ∀ k, Spec.Ok (A (32 * ((128 * t + q.val) / 32) + i) k) := by
  have := (h ⟨32 * (q.val / 32) + i, by omega⟩).ok
  simp only at this
  rwa [show 32 * ((128 * t + q.val) / 32) + i = 128 * t + (32 * (q.val / 32) + i) by omega]

include hv

/-- The adjusted largest kept magnitude of a lane's block. -/
theorem Row.top (q : Fin 128) : Tile.top v0 pd x (ix2 r q) = ((K * Spec.amax A ((128 * t + q.val) / 32) : ℝ) : EReal) := by
  rw [← Spec.bf5_amax]
  exact exchange2 hv (exchange1 hv fun p => (h p).big) q

/-- The scale of a lane's block. -/
theorem Row.sc (q : Fin 128) : Tile.sc v0 pd x (ix2 r q) = ((Spec.scl A (128 * t + q.val) : ℝ) : EReal) := by
  rw [Spec.scl, Spec.scale_found (h.ok q)]
  exact scOf_eq (h.top hv q)

/-- The inverse of that scale. -/
theorem Row.inv (q : Fin 128) : invOf (Tile.top v0 pd x) (ix2 r q) = (((Spec.scl A (128 * t + q.val))⁻¹ : ℝ) : EReal) := by
  rw [Spec.scl, Spec.scale_found (h.ok q)]
  exact invOf_eq (h.top hv q)

/-- A kept magnitude over its scale is at most 57344. -/
theorem Row.over (q : Fin 128) {y : ℝ} (hy : y ≤ Spec.big (A (128 * t + q.val))) : y * (Spec.scl A (128 * t + q.val))⁻¹ ≤ 57344 := by
  have := Spec.over_scale (h.ok q) (q.val % 32) (by omega) (v := y)
  rw [show 32 * ((128 * t + q.val) / 32) + q.val % 32 = 128 * t + q.val by omega] at this
  exact this hy

end row

/-! ## The kept values over the scale -/

section over
variable {vt vb vs M v226 v236 : T32 Ideal} {va : FVec Ideal S128x128 .bf16} {v233 : IVec S128x128 1} {cst : Ideal .f32} {y s i : ℝ}

/-- The larger kept magnitude over the scale: the bound 57344 does not cut it. -/
theorem over53 (h1 : k0_pay52 M v226 v233 v236 cst (ix2 r q) = (((s)⁻¹ : ℝ) : EReal)) (hb : vb (ix2 r q) = ((y : ℝ) : EReal))
    (hy : y * s⁻¹ ≤ 57344) : k0_pay53 vb M v226 v233 v236 cst (ix2 r q) = ((y * s⁻¹ : ℝ) : EReal) := by
  pointwise [k0_pay53]
  rw [h1, hb, f32_47600000, ← EReal.coe_mul, min_coe, min_eq_left hy]

/-- The smaller kept magnitude over the scale: the bound 57344 does not cut it. -/
theorem over54 (h1 : k0_pay52 M v226 v233 v236 cst (ix2 r q) = (((s)⁻¹ : ℝ) : EReal)) (hb : vb (ix2 r q) = ((y : ℝ) : EReal))
    (hy : y * s⁻¹ ≤ 57344) : k0_pay54 vb M v226 v233 v236 cst (ix2 r q) = ((y * s⁻¹ : ℝ) : EReal) := by
  pointwise [k0_pay54]
  rw [h1, hb, f32_47600000, ← EReal.coe_mul, min_coe, min_eq_left hy]

variable {b m l p : ℝ}

/-- The test whether the lower channel's entry is the group's largest. -/
theorem same (hl : va (ix2 r q) = ((l : ℝ) : EReal)) (ht : vt (ix2 r q) = ((p : ℝ) : EReal)) :
    k0_pay55 vt va (ix2 r q) = bit (|l| = p) := by
  pointwise [k0_pay55]
  rw [hl, ht, absf_coe]
  unfold bit
  simp only [EReal.coe_eq_coe_iff]

/-- The lower kept value over the scale: one of the two magnitudes, with the entry's sign. -/
theorem lower (hl : va (ix2 r q) = ((l : ℝ) : EReal)) (ht : vt (ix2 r q) = ((p : ℝ) : EReal)) (ok : Spec.Ok l)
    (h53 : k0_pay53 vb M v226 v233 v236 cst (ix2 r q) = ((b : ℝ) : EReal)) (h54 : k0_pay54 vs M v226 v233 v236 cst (ix2 r q) = ((m : ℝ) : EReal)) :
    k0_pay56 vt vb vs va M v226 v233 v236 cst (ix2 r q) = (((if |l| = p then b else m) * Spec.sgn l : ℝ) : EReal) := by
  have h1 := same hl ht
  pointwise [k0_pay56]
  rw [h1, h53, h54, hl, sel_bit, ite_coe, bf16_7E80, bf16_BF80, ← EReal.coe_one]
  simp only [← EReal.coe_mul, max_coe, min_coe]
  rw [Spec.clip_sgn ok]

/-- The higher channel's magnitude over the scale: the other one of the two. -/
theorem higher (hl : va (ix2 r q) = ((l : ℝ) : EReal)) (ht : vt (ix2 r q) = ((p : ℝ) : EReal))
    (h53 : k0_pay53 vb M v226 v233 v236 cst (ix2 r q) = ((b : ℝ) : EReal)) (h54 : k0_pay54 vs M v226 v233 v236 cst (ix2 r q) = ((m : ℝ) : EReal)) :
    k0_pay57 vt vb vs va M v226 v233 v236 cst (ix2 r q) = ((if |l| = p then m else b : ℝ) : EReal) := by
  have h1 := same hl ht
  pointwise [k0_pay57]
  rw [h1, h53, h54, sel_bit, ite_coe]

/-- The higher kept value over the scale: its magnitude with the entry's sign. -/
theorem signed {vh : FVec Ideal S128x128 .bf16} (hl : va (ix2 r q) = ((l : ℝ) : EReal)) (ok : Spec.Ok l) (hh : vh (ix2 r q) = ((b : ℝ) : EReal)) :
    k0_pay59 vh (k0_pay58 va) (ix2 r q) = ((b * Spec.sgn l : ℝ) : EReal) := by
  pointwise [k0_pay59, k0_pay58]
  rw [hh, hl, bf16_7E80, bf16_BF80, ← EReal.coe_one]
  simp only [← EReal.coe_mul, max_coe, min_coe]
  rw [Spec.clip_sgn ok]

end over

section row
variable (hv : Counts v0) (h : Row pd x w r A U t)
include h hv

/-- The value kept at the lower channel, over the scale. -/
theorem Row.vLo (q : Fin 128) : Tile.vLo v0 pd x w (ix2 r q) = ((Spec.code A U (2 * (128 * t + q.val)) : ℝ) : EReal) := by
  have g := h q
  refine (lower g.aLo g.top (g.ok _) (over53 (h.inv hv q) g.big (h.over hv q le_rfl))
    (over54 (h.inv hv q) g.small (h.over hv q Spec.small_le_big))).trans ?_
  rw [Spec.code_even, Spec.vLo]
  congr 1
  split_ifs <;> ring

/-- The higher channel's magnitude over the scale, in the row's groups. -/
theorem Row.qHi (q : Fin 128) : Tile.qHi v0 pd x w (ix2 r q)
    = ((if |A (128 * t + q.val) (Spec.lo (A (128 * t + q.val)) (U (128 * t + q.val)))| = Spec.top (A (128 * t + q.val))
        then Spec.small (A (128 * t + q.val)) * (Spec.scl A (128 * t + q.val))⁻¹
        else Spec.big (A (128 * t + q.val)) * (Spec.scl A (128 * t + q.val))⁻¹ : ℝ) : EReal) := by
  have g := h q
  exact higher g.aLo g.top (over53 (h.inv hv q) g.big (h.over hv q le_rfl)) (over54 (h.inv hv q) g.small (h.over hv q Spec.small_le_big))

/-- The value kept at the higher channel, over the scale. -/
theorem Row.vHi (q : Fin 128) : Tile.vHi v0 pd x w (ix2 r q) = ((Spec.code A U (2 * (128 * t + q.val) + 1) : ℝ) : EReal) := by
  have g := h q
  refine (signed g.aHi (g.ok _) (h.qHi hv q)).trans ?_
  rw [Spec.code_odd, Spec.vHi]
  congr 1
  split_ifs <;> ring

end row

end Cert.KernelIdeal.Tile
end
-- ==== Proof.KernelOut.lean ====
/- What the kernel stores from one row of a tile: the row's dense result, its codes, its scales. -/
module

public import proofs.«01_k».proof.Proof.KernelRow

@[expose] public section

set_option maxRecDepth 16384

noncomputable section

namespace Cert.Spec

/-! ## Which channel takes which value -/

section keep
variable {a : Fin 4 → ℝ} {u : ℝ}

/-- A lower channel 2 is at least 1. -/
theorem L2_L1 (h : L2 a u) : L1 a u := by
  unfold L2 c2 at h; unfold L1; linarith [abs_nonneg (a 1)]
/-- If the lower channel is 2, the higher one is at least 2. -/
theorem L2_H2 (h : L2 a u) : H2 a u := (min_le_right _ _).trans (L2_L1 h)
/-- A higher channel 3 is at least 2. -/
theorem H3_H2 (h : H3 a u) : H2 a u := by
  refine le_trans (min_le_min ?_ ?_) h
  · unfold c3; linarith [abs_nonneg (a 2)]
  · unfold c2; linarith [abs_nonneg (a 1)]

/-- The value at channel `k`: `x` at the lower kept channel, `y` at the higher. -/
def at' (a : Fin 4 → ℝ) (u : ℝ) (k : Fin 4) (x y : ℝ) : ℝ := if lo a u = k then x else if hi a u = k then y else 0

open Classical in
/-- What channel 0 takes, by the bits. -/
theorem at0 (x y : ℝ) : at' a u 0 x y = if L1 a u then 0 else x := by
  have h := @L2_L1 a u
  unfold at' lo hi
  by_cases p1 : L1 a u <;> by_cases p2 : L2 a u <;> by_cases p3 : H2 a u <;> by_cases p4 : H3 a u <;> simp_all
open Classical in
/-- What channel 1 takes, by the bits. -/
theorem at1 (x y : ℝ) : at' a u 1 x y = if L1 a u then (if L2 a u then 0 else x) else (if H2 a u then 0 else y) := by
  have h := @L2_L1 a u
  have h' := @L2_H2 a u
  have h'' := @H3_H2 a u
  unfold at' lo hi
  by_cases p1 : L1 a u <;> by_cases p2 : L2 a u <;> by_cases p3 : H2 a u <;> by_cases p4 : H3 a u <;> simp_all
open Classical in
/-- What channel 2 takes, by the bits. -/
theorem at2 (x y : ℝ) : at' a u 2 x y = if L2 a u then x else (if H3 a u then 0 else if H2 a u then y else 0) := by
  have h := @L2_L1 a u
  have h' := @L2_H2 a u
  have h'' := @H3_H2 a u
  unfold at' lo hi
  by_cases p1 : L1 a u <;> by_cases p2 : L2 a u <;> by_cases p3 : H2 a u <;> by_cases p4 : H3 a u <;> simp_all
open Classical in
/-- What channel 3 takes, by the bits. -/
theorem at3 (x y : ℝ) : at' a u 3 x y = if H3 a u then y else 0 := by
  have h := @L2_L1 a u
  have h' := @L2_H2 a u
  have h'' := @H3_H2 a u
  unfold at' lo hi
  by_cases p1 : L1 a u <;> by_cases p2 : L2 a u <;> by_cases p3 : H2 a u <;> by_cases p4 : H3 a u <;> simp_all

end keep

open Classical in
/-- A group's field, by the bits. -/
theorem field_eq {a : Fin 4 → ℝ} {u : ℝ} : field a u = if H3 a u then (if L2 a u then 14 else if L1 a u then 13 else 12)
    else if H2 a u then (if L1 a u then 9 else 8) else 4 := by
  have h := @L2_L1 a u
  have h' := @L2_H2 a u
  have h'' := @H3_H2 a u
  have g : L2 a u → H3 a u := fun h => (min_le_right _ _).trans h
  have g' : L1 a u → H2 a u := fun h => (min_le_right _ _).trans h
  unfold field lo hi
  by_cases p1 : L1 a u <;> by_cases p2 : L2 a u <;> by_cases p3 : H2 a u <;> by_cases p4 : H3 a u <;> simp_all

end Cert.Spec

namespace Cert.KernelIdeal.Tile

open Cert.KernelIdeal Cert.KernelIdeal.Gen Idealize.ShloMosaic Idealize.ShloMosaic.TcCoe Idealize.ShloMosaic.Tactic Cert.Consts

variable {v0 : IVec S8x128 32} {pd pi : Vec Ideal S512x512 .bf16} {x : Vec Ideal S128x512 .bf16} {w : Vec Ideal S128x128 .i32} {r q : Fin 128}
  {A : ℕ → Fin 4 → ℝ} {U : ℕ → ℝ} {t : ℕ}

/-! ## The sorting matrices -/

/-- Column `c` of the matrix picks entry `4·(c % 128) + c / 128`. -/
def Sorts (pd : Vec Ideal S512x512 .bf16) : Prop :=
  ∀ i c : Fin 512, pd (ix2 i c) = if i.val = 4 * (c.val % 128) + c.val / 128 then (1 : EReal) else 0
/-- The transpose. -/
def Unsorts (pi : Vec Ideal S512x512 .bf16) : Prop :=
  ∀ i c : Fin 512, pi (ix2 i c) = if c.val = 4 * (i.val % 128) + i.val / 128 then (1 : EReal) else 0

/-- A sum against a column with one 1. -/
theorem sum_pick (f : Fin 512 → EReal) (g : Fin 512 → EReal) (p : Fin 512) (hg : ∀ i, g i = if i = p then 1 else 0) :
    ∑ i, f i * g i = f p := by
  simp only [hg, mul_ite, mul_one, mul_zero, Finset.sum_ite_eq', Finset.mem_univ, if_true]

/-- The product with the sorting matrix, at an index: the tile's lanes sorted by channel. -/
theorem sorted (hp : Sorts pd) (c : Fin 512) : k0_pay3 x pd (ix2 r c) = x (ix2 r ⟨4 * (c.val % 128) + c.val / 128, by omega⟩) := by
  pointwise [k0_pay3]
  exact sum_pick (fun i => x (ix2 r i)) (fun i => pd (ix2 i c)) _ fun i => by
    rw [hp]; simp only [Fin.ext_iff]

/-- A row of a tile whose entries are the groups', lane by lane. -/
theorem Row.mk (hp : Sorts pd) (hx : ∀ (q : Fin 128) (k : Fin 4), x (ix2 r ⟨4 * q.val + k.val, by omega⟩) = ((A (128 * t + q.val) k : ℝ) : EReal))
    (hw : ∀ q : Fin 128, U (128 * t + q.val) = Spec.uOf (w (ix2 r q))) (ok : ∀ (q : Fin 128) k, Spec.Ok (A (128 * t + q.val) k)) :
    Row pd x w r A U t := fun q => by
  have key : ∀ (k : Fin 4) (c : Fin 512), c.val = 128 * k.val + q.val → k0_pay3 x pd (ix2 r c) = ((A (128 * t + q.val) k : ℝ) : EReal) := by
    intro k c hc
    rw [sorted hp, ← hx q k]
    congr 2
    apply Fin.ext
    show 4 * (c.val % 128) + c.val / 128 = 4 * q.val + k.val
    omega
  refine ⟨?_, ?_, ?_, ?_, hw q, ok q⟩
  · pointwise [k0_pay4]; exact key 0 _ (by simp)
  · pointwise [k0_pay5]; exact key 1 _ (by simp)
  · pointwise [k0_pay6]; exact key 2 _ (by simp)
  · pointwise [k0_pay7]; exact key 3 _ (by simp)

/-! ## The dense result -/

section row
variable (hv : Counts v0) (h : Row pd x w r A U t)
include h hv

/-- The dense result of the row in this tile: each kept code times its scale, at its channel, else zero. -/
theorem Row.code_dense (cc : Fin 512) : Spec.dense A U (512 * t + cc.val)
    = Spec.at' (A (128 * t + cc.val / 4)) (U (128 * t + cc.val / 4)) (Fin.ofNat 4 cc.val)
        (Spec.code A U (2 * (128 * t + cc.val / 4))) (Spec.code A U (2 * (128 * t + cc.val / 4) + 1)) * Spec.scl A (128 * t + cc.val / 4) := by
  have h1 : (512 * t + cc.val) / 4 = 128 * t + cc.val / 4 := by omega
  have h2 : Fin.ofNat 4 (512 * t + cc.val) = Fin.ofNat 4 cc.val := by
    apply Fin.ext; show (512 * t + cc.val) % 4 = cc.val % 4; omega
  unfold Spec.dense Spec.at'
  rw [h1, h2]

omit h hv in
/-- Lane numbers: the second quarter is past the first. -/
theorem f1 (n : ℕ) : ¬ 128 + n < 128 := by omega
omit h hv in
/-- Lane numbers: the third quarter is past the first. -/
theorem f2 (n : ℕ) : ¬ 256 + n < 128 := by omega
omit h hv in
/-- Lane numbers: the fourth quarter is past the first. -/
theorem f3 (n : ℕ) : ¬ 384 + n < 128 := by omega
omit h hv in
/-- Lane numbers: the second quarter less 128. -/
theorem d1 (n : ℕ) : 128 + n - 128 = n := by omega
omit h hv in
/-- Lane numbers: the third quarter less 128. -/
theorem d2 (n : ℕ) : 256 + n - 128 = 128 + n := by omega
omit h hv in
/-- Lane numbers: the fourth quarter less 128. -/
theorem d3 (n : ℕ) : 384 + n - 128 = 256 + n := by omega

/-- The codes of the four channels, sorted back into the tile's order. -/
theorem Row.picked (hp : Unsorts pi) (cc : Fin 512) : Tile.picked v0 pd pi x w (ix2 r cc)
    = ((Spec.at' (A (128 * t + cc.val / 4)) (U (128 * t + cc.val / 4)) (Fin.ofNat 4 cc.val)
        (Spec.code A U (2 * (128 * t + cc.val / 4))) (Spec.code A U (2 * (128 * t + cc.val / 4) + 1)) : ℝ) : EReal) := by
  have hk : cc.val % 4 = 0 ∨ cc.val % 4 = 1 ∨ cc.val % 4 = 2 ∨ cc.val % 4 = 3 := by omega
  have hq : cc.val / 4 < 128 := by omega
  have g := h ⟨cc.val / 4, hq⟩
  have hl := h.vLo hv ⟨cc.val / 4, hq⟩
  have hh := h.vHi hv ⟨cc.val / 4, hq⟩
  have g1 := g.l1
  have g2 := g.l2
  have g3 := g.h2
  have g4 := g.h3
  unfold Tile.vHi at hh
  pointwise [Tile.picked, k0_pay60]
  refine (sum_pick _ (fun i => pi (ix2 i cc)) ⟨128 * (cc.val % 4) + cc.val / 4, by omega⟩ fun i => ?_).trans ?_
  · rw [hp]
    simp only [Fin.ext_iff]
    congr 1
    apply propext
    omega
  · rcases hk with k | k | k | k
    · have e : Fin.ofNat 4 cc.val = 0 := Fin.ext k
      have n : 128 * (cc.val % 4) + cc.val / 4 = cc.val / 4 := by omega
      simp only [n, hq, dite_true, g1, hl, sel_bit]
      rw [e, Spec.at0, ← EReal.coe_zero, ite_coe]
    · have e : Fin.ofNat 4 cc.val = 1 := Fin.ext k
      have n : 128 * (cc.val % 4) + cc.val / 4 = 128 + cc.val / 4 := by omega
      simp only [n, f1, d1, hq, dite_true, dite_false, g1, g2, g3, hl, hh, sel_bit]
      rw [e, Spec.at1, ← EReal.coe_zero, ite_coe, ite_coe, ite_coe]
    · have e : Fin.ofNat 4 cc.val = 2 := Fin.ext k
      have n : 128 * (cc.val % 4) + cc.val / 4 = 256 + cc.val / 4 := by omega
      simp only [n, f1, f2, d1, d2, hq, dite_true, dite_false, g2, g3, g4, hl, hh, sel_bit]
      rw [e, Spec.at2, ← EReal.coe_zero, ite_coe, ite_coe, ite_coe]
    · have e : Fin.ofNat 4 cc.val = 3 := Fin.ext k
      have n : 128 * (cc.val % 4) + cc.val / 4 = 384 + cc.val / 4 := by omega
      simp only [n, f1, f2, f3, d1, d2, d3, hq, dite_true, dite_false, g4, hh, sel_bit]
      rw [e, Spec.at3, ← EReal.coe_zero, ite_coe]

/-- Two lanes of a block have one scale. -/
theorem Row.same_scl {g g' : ℕ} (e : g / 32 = g' / 32) : Spec.scl A g = Spec.scl A g' := by
  unfold Spec.scl; rw [e]

/-- A quarter of the dense result, from the sorted values and the scale at a lane of the quarter's block. -/
theorem Row.quarter (hp : Unsorts pi) (kk : Fin 4) (l : Fin 128) (cc : Fin 512) (hc : cc.val = 128 * kk.val + l.val) (b : Fin 128)
    (hb : b.val = 32 * kk.val) :
    Tile.picked v0 pd pi x w (ix2 r cc) * Tile.sc v0 pd x (ix2 r b) = ((Spec.dense A U (512 * t + (128 * kk.val + l.val)) : ℝ) : EReal) := by
  rw [h.picked hv hp, h.sc hv, ← EReal.coe_mul, ← hc, h.code_dense hv]
  congr 2
  refine h.same_scl hv ?_
  omega

/-- The first quarter of the tile's dense result. -/
theorem Row.dense0 (hp : Unsorts pi) (l : Fin 128) : Tile.dense0 v0 pd pi x w (ix2 r l) = ((Spec.dense A U (512 * t + (128 * 0 + l.val)) : ℝ) : EReal) := by
  have e := h.quarter hv hp 0 l ⟨l.val, by omega⟩ (by simp) 0 (by simp)
  unfold Tile.picked at e
  pointwise [Tile.dense0, k0_pay61]
  refine e.trans ?_
  simp
/-- The second quarter of the tile's dense result. -/
theorem Row.dense1 (hp : Unsorts pi) (l : Fin 128) : Tile.dense1 v0 pd pi x w (ix2 r l) = ((Spec.dense A U (512 * t + (128 * 1 + l.val)) : ℝ) : EReal) := by
  have e := h.quarter hv hp 1 l ⟨128 + l.val, by omega⟩ (by simp) 32 (by simp)
  pointwise [Tile.dense1, k0_pay63, k0_pay62]
  exact e
/-- The third quarter of the tile's dense result. -/
theorem Row.dense2 (hp : Unsorts pi) (l : Fin 128) : Tile.dense2 v0 pd pi x w (ix2 r l) = ((Spec.dense A U (512 * t + (128 * 2 + l.val)) : ℝ) : EReal) := by
  have e := h.quarter hv hp 2 l ⟨256 + l.val, by omega⟩ (by simp) 64 (by simp)
  pointwise [Tile.dense2, k0_pay64]
  exact e
/-- The fourth quarter of the tile's dense result. -/
theorem Row.dense3 (hp : Unsorts pi) (l : Fin 128) : Tile.dense3 v0 pd pi x w (ix2 r l) = ((Spec.dense A U (512 * t + (128 * 3 + l.val)) : ℝ) : EReal) := by
  have e := h.quarter hv hp 3 l ⟨384 + l.val, by omega⟩ (by simp) 96 (by simp)
  pointwise [Tile.dense3, k0_pay65]
  exact e

/-! ## The codes -/

end row

/-- The lane number that the first codes' gather computes is half the lane. -/
theorem half_lane : ∀ l : Fin 128, (Scalar.select (IntOp.cmpi CmpIPredicate.slt (IntOp.addi (IntOp.shrsi ArithUnit.vector (BitVec.ofNat 32 l.val) 1#32) 0#32) 0#32)
    (IntOp.addi (IntOp.addi (IntOp.shrsi ArithUnit.vector (BitVec.ofNat 32 l.val) 1#32) 0#32) 128#32)
    (IntOp.addi (IntOp.shrsi ArithUnit.vector (BitVec.ofNat 32 l.val) 1#32) 0#32)).toNat % 128 = l.val / 2 := by decide +kernel
/-- The lane number that the second codes' gather computes is 64 plus half the lane. -/
theorem half_lane' : ∀ l : Fin 128, (Scalar.select (IntOp.cmpi CmpIPredicate.slt (IntOp.addi (IntOp.shrsi ArithUnit.vector (BitVec.ofNat 32 l.val) 1#32) 64#32) 0#32)
    (IntOp.addi (IntOp.addi (IntOp.shrsi ArithUnit.vector (BitVec.ofNat 32 l.val) 1#32) 64#32) 128#32)
    (IntOp.addi (IntOp.shrsi ArithUnit.vector (BitVec.ofNat 32 l.val) 1#32) 64#32)).toNat % 128 = l.val / 2 + 64 := by decide +kernel
/-- The test "even lane". -/
theorem parity : ∀ l : Fin 128, IntOp.cmpi CmpIPredicate.eq (IntOp.andi (BitVec.ofNat 32 l.val) 1#32) 0#32 = BitVec.ofBool (decide (l.val % 2 = 0)) := by decide +kernel

section row
variable (hv : Counts v0) (h : Row pd x w r A U t)
include h hv

/-- The first half of the tile's codes. -/
theorem Row.codes0 (l : Fin 128) : Tile.codes0 v0 pd x w (ix2 r l) = ((Spec.code A U (256 * t + l.val) : ℝ) : EReal) := by
  have hq : l.val / 2 < 128 := by omega
  have hl := h.vLo hv ⟨l.val / 2, hq⟩
  have hh := h.vHi hv ⟨l.val / 2, hq⟩
  pointwise [Tile.codes0, k0_pay68, k0_pay67, k0_pay66]
  simp only [half_lane, parity, hl, hh]
  rw [Scalar.select_decide]
  split_ifs with e
  · congr 2; omega
  · congr 2; omega

/-- The second half of the tile's codes. -/
theorem Row.codes1 (l : Fin 128) : Tile.codes1 v0 pd x w (ix2 r l) = ((Spec.code A U (256 * t + (128 + l.val)) : ℝ) : EReal) := by
  have hq : l.val / 2 + 64 < 128 := by omega
  have hl := h.vLo hv ⟨l.val / 2 + 64, hq⟩
  have hh := h.vHi hv ⟨l.val / 2 + 64, hq⟩
  pointwise [Tile.codes1, k0_pay73, k0_pay72, k0_pay71, k0_pay70, k0_pay69, k0_pay67, k0_pay66]
  simp only [half_lane', parity, hl, hh]
  rw [Scalar.select_decide]
  split_ifs with e
  · congr 2; omega
  · congr 2; omega

end row

/-! ## The scales -/

/-- The lane number that the scales' gather computes is 32 times the lane modulo four. -/
theorem scale_lane : ∀ l : Fin 128, (Scalar.select (IntOp.cmpi CmpIPredicate.slt (IntOp.muli (IntOp.andi (BitVec.ofNat 32 l.val) 3#32) 32#32) 0#32)
    (IntOp.addi (IntOp.muli (IntOp.andi (BitVec.ofNat 32 l.val) 3#32) 32#32) 128#32)
    (IntOp.muli (IntOp.andi (BitVec.ofNat 32 l.val) 3#32) 32#32)).toNat % 128 = 32 * (l.val % 4) := by decide +kernel
/-- The test "this lane's four belong to tile `t`". -/
theorem scale_tile : ∀ (t : Fin 32) (l : Fin 128), IntOp.cmpi CmpIPredicate.eq (IntOp.shrsi ArithUnit.vector (BitVec.ofNat 32 l.val) 2#32) (BitVec.ofNat 32 t.val)
    = BitVec.ofBool (decide (l.val / 4 = t.val)) := by decide +kernel

/-- The scales' block after the tile: its four scales put in, the rest as before. -/
theorem Row.scales (hv : Counts v0) (h : Row pd x w r A U t) (ht : t < 32) (prev : Vec Ideal S128x128 .f32) (l : Fin 128) :
    Tile.scales (BitVec.ofNat 32 t) (Tile.sc v0 pd x) prev (ix2 r l) = if l.val / 4 = t then ((Spec.scl A (32 * l.val) : ℝ) : EReal) else prev (ix2 r l) := by
  have hq : 32 * (l.val % 4) < 128 := by omega
  have hs := h.sc hv ⟨32 * (l.val % 4), hq⟩
  have e2 := scale_tile ⟨t, ht⟩ l
  simp only at e2
  pointwise [Tile.scales, k0_pay76, k0_pay75]
  simp only [scale_lane]
  rw [e2, hs, Scalar.select_decide]
  by_cases e : l.val / 4 = t
  · have e3 : 128 * t + 32 * (l.val % 4) = 32 * l.val := by omega
    rw [if_pos e, if_pos e]
    simp only [e3]
  · rw [if_neg e, if_neg e]

end Cert.KernelIdeal.Tile

end
-- ==== Proof.KernelMeta.lean ====
/- The packed channel numbers that the kernel stores from one row of two neighbouring tiles. -/
module

public import proofs.«01_k».proof.Proof.KernelOut
public import Idealize.ShloMosaic.Lib.BitcastFour

@[expose] public section

set_option maxRecDepth 16384

noncomputable section

namespace Cert.KernelIdeal.Tile

open Cert.KernelIdeal Cert.KernelIdeal.Gen Idealize.ShloMosaic Idealize.ShloMosaic.TcCoe Idealize.ShloMosaic.Tactic Cert.Consts

/-- The lane after `l`, around. -/
def next (l : Fin 128) : Fin 128 := ⟨(l.val + 1) % 128, Nat.mod_lt _ (by norm_num)⟩
/-- The lane `2·l`, around. -/
def twice (l : Fin 128) : Fin 128 := ⟨2 * l.val % 128, Nat.mod_lt _ (by norm_num)⟩

/-- A word joined with its right neighbour's, shifted by four bits. -/
theorem paired_at (f : IVec S32x128 32) (a : Fin 32) (l : Fin 128) : paired f (ix2 a l) = f (ix2 a l) ||| f (ix2 a (next l)) <<< 4 := by
  pointwise [paired]
  have e : (⟨(l.val + 128 - 127) % 128, Nat.mod_lt _ (by norm_num)⟩ : Fin 128) = next l := Fin.ext (by unfold next; simp only; omega)
  rw [e]
  rfl

/-- The lane number that the second gather computes is twice the lane, around. -/
theorem twice_lane : ∀ l : Fin 128, (Scalar.select (IntOp.cmpi CmpIPredicate.slt (IntOp.andi (IntOp.muli (BitVec.ofNat 32 l.val) 2#32) 127#32) 0#32)
    (IntOp.addi (IntOp.andi (IntOp.muli (BitVec.ofNat 32 l.val) 2#32) 127#32) 128#32)
    (IntOp.andi (IntOp.muli (BitVec.ofNat 32 l.val) 2#32) 127#32)).toNat % 128 = (twice l).val := by decide +kernel

/-- The second gather reads lane `2·l`. -/
theorem evens_at (f : IVec S32x128 32) (a : Fin 32) (l : Fin 128) : evens f (ix2 a l) = f (ix2 a (twice l)) := by
  pointwise [evens, dbl]
  simp only [twice_lane]

/-- A byte for each group: its two kept channels' numbers. -/
def bytes (l1 l2 h2 h3 : IVec S128x128 1) : IVec S128x128 8 :=
  trunci 8 (select h3 (select l2 (broadcast S128x128 14#16) (select l1 (broadcast S128x128 13#16) (broadcast S128x128 12#16)))
    (select h2 (select l1 (broadcast S128x128 9#16) (broadcast S128x128 8#16)) (broadcast S128x128 4#16))) natLt_8_16

/-- Bytes read four rows to a word. -/
def words (B : IVec S128x128 8) : IVec S32x128 32 := bitcast S32x128 32 B bitcasts_S128x128_w8_S32x128_w32

/-- The kernel's field words are the words of the groups' bytes. -/
theorem fld_eq (l1 l2 h2 h3 : IVec S128x128 1) : k0_pay74 l1 l2 h2 h3 = words (bytes l1 l2 h2 h3) := rfl

variable {pd : Vec Ideal S512x512 .bf16} {x : Vec Ideal S128x512 .bf16} {w : Vec Ideal S128x128 .i32} {r q : Fin 128}
  {A : ℕ → Fin 4 → ℝ} {U : ℕ → ℝ} {t : ℕ}

/-- What holds of both choices holds of a selection. -/
theorem sel_cases {α : Type} (b : BitVec 1) (y z : α) (P : α → Prop) (hy : P y) (hz : P z) : P (Scalar.select b y z) := by
  unfold Scalar.select; split_ifs <;> assumption

/-- A group's byte is below 16. -/
theorem bytes_lt (l1 l2 h2 h3 : IVec S128x128 1) (r q : Fin 128) : (bytes l1 l2 h2 h3 (ix2 r q)).toNat < 16 := by
  pointwise [bytes]
  refine sel_cases _ _ _ (fun v : BitVec 16 => (BitVec.setWidth 8 v).toNat < 16) ?_ ?_
  · refine sel_cases _ _ _ (fun v : BitVec 16 => (BitVec.setWidth 8 v).toNat < 16) (by decide) ?_
    exact sel_cases _ _ _ (fun v : BitVec 16 => (BitVec.setWidth 8 v).toNat < 16) (by decide) (by decide)
  · refine sel_cases _ _ _ (fun v : BitVec 16 => (BitVec.setWidth 8 v).toNat < 16) ?_ (by decide)
    exact sel_cases _ _ _ (fun v : BitVec 16 => (BitVec.setWidth 8 v).toNat < 16) (by decide) (by decide)

/-- A group's byte is its field. -/
theorem bytes_eq {a : Fin 4 → ℝ} {u : ℝ} {l1 l2 h2 h3 : IVec S128x128 1} (e1 : l1 (ix2 r q) = bit (Spec.L1 a u)) (e2 : l2 (ix2 r q) = bit (Spec.L2 a u))
    (e3 : h2 (ix2 r q) = bit (Spec.H2 a u)) (e4 : h3 (ix2 r q) = bit (Spec.H3 a u)) : bytes l1 l2 h2 h3 (ix2 r q) = BitVec.ofNat 8 (Spec.field a u) := by
  pointwise [bytes]
  rw [e1, e2, e3, e4, Spec.field_eq]
  simp only [sel_bit]
  split_ifs <;> rfl

/-- The upper bits of a byte below 16 are zero. -/
theorem high_zero {v : BitVec 8} (h : v.toNat < 16) {b : ℕ} (hb : 4 ≤ b) : v.getLsbD b = false := by
  rw [BitVec.getLsbD]
  exact Nat.testBit_lt_two_pow (lt_of_lt_of_le h (by calc 16 = 2 ^ 4 := rfl
                                                     _ ≤ 2 ^ b := Nat.pow_le_pow_right (by norm_num) hb))

/-- One bit of a word of bytes. -/
theorem word_bit (B : IVec S128x128 8) (a : Fin 32) (l : Fin 128) (i : ℕ) (hi : i < 32) (p : Fin 128) (hp : p.val = 4 * a.val + i / 8) :
    (words B (ix2 a l)).getLsbD i = (B (ix2 p l)).getLsbD (i % 8) := bitcast_8_32_getLsbD_ix2 B _ a l i hi p hp

/-- One bit of a word of neighbouring bytes joined. -/
theorem paired_bit (B : IVec S128x128 8) (hB : ∀ r q, (B (ix2 r q)).toNat < 16) (a : Fin 32) (l : Fin 128) (b : ℕ) (hb : b < 8) (p : Fin 128)
    (hp : p.val / 4 = a.val) :
    (paired (words B) (ix2 a l)).getLsbD (8 * (p.val % 4) + b) = (B (ix2 p l) ||| B (ix2 p (next l)) <<< 4).getLsbD b := by
  rw [paired_at, BitVec.getLsbD_or, BitVec.getLsbD_or, BitVec.getLsbD_shiftLeft, BitVec.getLsbD_shiftLeft]
  rw [word_bit B a l _ (by omega) p (by omega), show (8 * (p.val % 4) + b) % 8 = b by omega]
  congr 1
  by_cases h4 : b < 4
  · have e : ∀ z : Bool, (decide (b < 8) && !decide (b < 4) && z) = false := fun z => by simp [h4]
    rw [e]
    by_cases h0 : 8 * (p.val % 4) + b < 4
    · simp [h0]
    · rw [word_bit B a (next l) _ (by omega) ⟨p.val - 1, by omega⟩ (by simp only; omega), high_zero (hB _ _) (by omega), Bool.and_false]
  · rw [word_bit B a (next l) _ (by omega) p (by omega), show (8 * (p.val % 4) + b - 4) % 8 = b - 4 by omega]
    have g1 : decide (8 * (p.val % 4) + b < 32) = true := by simp; omega
    have g2 : decide (8 * (p.val % 4) + b < 4) = false := by simp; omega
    have g3 : decide (b < 8) = true := by simp; omega
    have g4 : decide (b < 4) = false := by simp; omega
    rw [g1, g2, g3, g4]

/-- The test "lane below 64". -/
theorem low_half : ∀ l : Fin 128, IntOp.cmpi CmpIPredicate.slt (BitVec.ofNat 32 l.val) 64#32 = BitVec.ofBool (decide (l.val < 64)) := by decide +kernel

/-- The stored bytes. -/
theorem meta_at (B B' : IVec S128x128 8) (hB : ∀ r q, (B (ix2 r q)).toNat < 16) (hB' : ∀ r q, (B' (ix2 r q)).toNat < 16) (r l : Fin 128) :
    meta' (words B) (words B') (ix2 r l) = if l.val < 64 then B (ix2 r (twice l)) ||| B (ix2 r (next (twice l))) <<< 4
      else B' (ix2 r (twice l)) ||| B' (ix2 r (next (twice l))) <<< 4 := by
  have e : meta' (words B) (words B') = bitcast S128x128 8 (select (cmpi .slt lane32 (broadcast S32x128 64#32)) (evens (paired (words B))) (evens (paired (words B'))))
      bitcasts_S32x128_w32_S128x128_w8 := rfl
  rw [e]
  apply BitVec.eq_of_getLsbD_eq
  intro b hb
  rw [bitcast_getLsbD _ _ _ b hb (by norm_num)]
  have hi : bitcasts_S32x128_w32_S128x128_w8.srcIdx (ix2 r l) ((S128x128.row (ix2 r l) * 8 + b) / 32)
      (fun a ha => (Nat.div_lt_iff_lt_mul (by norm_num)).2 (bitcasts_S32x128_w32_S128x128_w8.pos_lt (ix2 r l) b hb a ha)) = ix2 (⟨r.val / 4, by omega⟩ : Fin 32) l := by
    funext c
    match c with
    | ⟨0, _⟩ =>
      refine Fin.ext ((Shape.Bitcasts.srcIdx_row _ _ _ _ ⟨0, Nat.zero_lt_two⟩ rfl).trans ?_)
      show (r.val * 8 + b) / 32 = r.val / 4
      omega
    | ⟨1, _⟩ => exact Fin.ext (Shape.Bitcasts.srcIdx_other _ _ _ _ ⟨1, Nat.one_lt_two⟩ (by show ¬ 1 + 2 = 2; omega))
  rw [hi, show (S128x128.row (ix2 r l) * 8 + b) % 32 = 8 * (r.val % 4) + b by show (r.val * 8 + b) % 32 = _; omega]
  have hc : cmpi .slt lane32 (broadcast S32x128 64#32) (ix2 (⟨r.val / 4, by omega⟩ : Fin 32) l) = BitVec.ofBool (decide (l.val < 64)) := by
    pointwise
    exact low_half l
  have hs : select (cmpi .slt lane32 (broadcast S32x128 64#32)) (evens (paired (words B))) (evens (paired (words B'))) (ix2 (⟨r.val / 4, by omega⟩ : Fin 32) l)
      = if l.val < 64 then evens (paired (words B)) (ix2 (⟨r.val / 4, by omega⟩ : Fin 32) l) else evens (paired (words B')) (ix2 (⟨r.val / 4, by omega⟩ : Fin 32) l) := by
    rw [← Scalar.select_decide, ← hc]; rfl
  rw [hs, evens_at, evens_at]
  split_ifs
  · exact paired_bit B hB _ _ b hb r rfl
  · exact paired_bit B' hB' _ _ b hb r rfl

/-- Two four-bit fields joined. -/
theorem join : ∀ m n : Fin 16, (BitVec.ofNat 8 m.val ||| BitVec.ofNat 8 n.val <<< 4) = BitVec.ofNat 8 (m.val + 16 * n.val) := by decide +kernel

/-- A field is below 16. -/
theorem field_lt (a : Fin 4 → ℝ) (u : ℝ) : Spec.field a u < 16 := by unfold Spec.field; omega

/-- The packed channel numbers of one row of the tiles `2·k` and `2·k + 1`. -/
theorem Row.meta' {x x' : Vec Ideal S128x512 .bf16} {w w' : Vec Ideal S128x128 .i32} {k : ℕ} (h : Row pd x w r A U (2 * k)) (h' : Row pd x' w' r A U (2 * k + 1))
    (l : Fin 128) : Tile.meta' (fld pd x w) (fld pd x' w') (ix2 r l) = BitVec.ofNat 8 (Spec.packed A U (128 * k + l.val)) := by
  unfold fld
  rw [fld_eq, fld_eq, meta_at _ _ (bytes_lt _ _ _ _) (bytes_lt _ _ _ _)]
  have g : ∀ q, bytes (l1 pd x w) (l2 pd x w) (h2 pd x w) (h3 pd x w) (ix2 r q) = _ := fun q => bytes_eq (h q).l1 (h q).l2 (h q).h2 (h q).h3
  have g' : ∀ q, bytes (l1 pd x' w') (l2 pd x' w') (h2 pd x' w') (h3 pd x' w') (ix2 r q) = _ := fun q => bytes_eq (h' q).l1 (h' q).l2 (h' q).h2 (h' q).h3
  rw [g, g, g', g']
  unfold Spec.packed
  split_ifs with hl
  · have e1 : 128 * (2 * k) + (twice l).val = 2 * (128 * k + l.val) := by unfold twice; simp only; omega
    have e2 : 128 * (2 * k) + (next (twice l)).val = 2 * (128 * k + l.val) + 1 := by unfold next twice; simp only; omega
    rw [e1, e2]
    exact join ⟨_, field_lt _ _⟩ ⟨_, field_lt _ _⟩
  · have e1 : 128 * (2 * k + 1) + (twice l).val = 2 * (128 * k + l.val) := by unfold twice; simp only; omega
    have e2 : 128 * (2 * k + 1) + (next (twice l)).val = 2 * (128 * k + l.val) + 1 := by unfold next twice; simp only; omega
    rw [e1, e2]
    exact join ⟨_, field_lt _ _⟩ ⟨_, field_lt _ _⟩

end Cert.KernelIdeal.Tile

end
-- ==== Proof.KernelWhole.lean ====
/- What the kernel's body leaves in its four result buffers for one block of rows: the 16 trips of its loop each write two
   tiles, and together the row functions of the specification. -/
module

public import proofs.«01_k».proof.Proof.KernelOut
public import proofs.«01_k».proof.Proof.KernelMeta
public import proofs.«01_k».proof.Proof.KernelFrame
public import Idealize.ShloMosaic.Lib.Pipeline.ValueKit
public import Idealize.ShloMosaic.Lib.VecWindow
public import Idealize.ShloMosaic.Lib.Pointwise

@[expose] public section

set_option maxRecDepth 16384

noncomputable section

namespace Cert.KernelIdeal.Whole

open Cert.KernelIdeal Cert.KernelIdeal.Gen Cert.KernelIdeal.Tile Idealize.ShloMosaic Idealize.ShloMosaic.TcCoe Idealize.ShloMosaic.Tactic

/-! ## The offsets of a trip's accesses -/

/-- Where a trip reads its tiles. -/
theorem off1 : ∀ (k : Fin k0_t1_loop.trips) (j : Fin 2), k0_off1 k (BitVec.ofNat 32 j.val) 0 = 0 ∧ k0_off1 k (BitVec.ofNat 32 j.val) 1 = 512 * (2 * k.val + j.val) := by
  decide +kernel
/-- Where a trip reads its random words. -/
theorem off2 : ∀ (k : Fin k0_t1_loop.trips) (j : Fin 2), k0_off2 k (BitVec.ofNat 32 j.val) 0 = 0 ∧ k0_off2 k (BitVec.ofNat 32 j.val) 1 = 128 * (2 * k.val + j.val) := by
  decide +kernel
/-- Where a trip stores the quarters of its dense results. -/
theorem off3 : ∀ (k : Fin k0_t1_loop.trips) (j : Fin 2) (q : Fin 4), k0_off3 k (BitVec.ofNat 32 j.val) (BitVec.ofNat 32 (128 * q.val)) 0 = 0
    ∧ k0_off3 k (BitVec.ofNat 32 j.val) (BitVec.ofNat 32 (128 * q.val)) 1 = 512 * (2 * k.val + j.val) + 128 * q.val := by
  decide +kernel
/-- Where a trip stores the halves of its codes. -/
theorem off4 : ∀ (k : Fin k0_t1_loop.trips) (j : Fin 2) (q : Fin 2), k0_off4 k (BitVec.ofNat 32 j.val) (BitVec.ofNat 32 (128 * q.val)) 0 = 0
    ∧ k0_off4 k (BitVec.ofNat 32 j.val) (BitVec.ofNat 32 (128 * q.val)) 1 = 256 * (2 * k.val + j.val) + 128 * q.val := by
  decide +kernel
/-- Where a trip stores its packed channel numbers. -/
theorem off5 : ∀ (k : Fin k0_t1_loop.trips), k0_off5 k 0 = 0 ∧ k0_off5 k 1 = 128 * k.val := by
  decide +kernel
/-- The number of a trip's tile. -/
theorem tile_no : ∀ (k : Fin k0_t1_loop.trips) (j : Fin 2), tileNo k j = BitVec.ofNat 32 (2 * k.val + j.val) := by
  decide +kernel
/-- The loop has 16 trips. -/
theorem trips_eq : k0_t1_loop.trips = 16 := by decide +kernel
/-- A trip's number is below 16. -/
theorem lt16 (k : Fin k0_t1_loop.trips) : k.val < 16 := trips_eq ▸ k.isLt

/-! ## The blocks the body is given -/

/-- The block's operands: the entries of its 128 rows (`A`, by row, group and channel), the random numbers of their groups
    (`U`), and the two matrices that sort channels apart and back. -/
structure Given (x0 : Vec Ideal S128x16384 .bf16) (x1 : Vec Ideal S128x4096 .i32) (x2 x3 : Vec Ideal S512x512 .bf16)
    (A : Fin 128 → ℕ → Fin 4 → ℝ) (U : Fin 128 → ℕ → ℝ) : Prop where
  sorts : Sorts x2
  unsorts : Unsorts x3
  x : ∀ (r : Fin 128) (g : Fin 4096) (k : Fin 4), x0 (ix2 r ⟨4 * g.val + k.val, by omega⟩) = ((A r g.val k : ℝ) : EReal)
  w : ∀ (r : Fin 128) (g : Fin 4096), U r g.val = Spec.uOf (x1 (ix2 r g))
  ok : ∀ (r : Fin 128) (g : Fin 4096) (k : Fin 4), Spec.Ok (A r g.val k)

/-- The table of lane numbers. -/
theorem counts : Counts kernelRun0_A.sl.v0 := by
  intro q
  unfold kernelRun0_A.sl.v0
  pointwise []

section body
variable (c : Dev nD) (i : grid0.Coords) (arg1 : Memref sig .tc .vmem S128x16384 .bf16) (harg1 : arg1.IsWhole) (arg2 : Memref sig .tc .vmem S128x4096 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x16384 .bf16) (harg5 : arg5.IsWhole) (arg6 : Memref sig .tc .vmem S128x8192 .fp8e5m2) (harg6 : arg6.IsWhole) (arg7 : Memref sig .tc .vmem S128x128 .f32) (harg7 : arg7.IsWhole) (arg8 : Memref sig .tc .vmem S128x2048 .i8) (harg8 : arg8.IsWhole)
    (x0 : Vec Ideal S128x16384 .bf16) (x1 : Vec Ideal S128x4096 .i32) (x2 : Vec Ideal S512x512 .bf16) (x3 : Vec Ideal S512x512 .bf16)
variable {A : Fin 128 → ℕ → Fin 4 → ℝ} {U : Fin 128 → ℕ → ℝ}

/-- A tile's entries, in the block. -/
theorem tile_x (k : Fin k0_t1_loop.trips) (j : Fin 2) (r : Fin 128) (l : Fin 512) (l' : Fin 16384) (h : l'.val = 512 * (2 * k.val + j.val) + l.val) :
    xAt arg1 (harg1.unread x0) k j (ix2 r l) = x0 (ix2 r l') := by
  unfold xAt
  rw [View.readAt_eq_ld, harg1.read_unread]
  refine View.ld_unit_apply_of x0 _ _ _ _ _ fun a => ?_
  have ho := off1 k j
  fin_cases a
  · exact ho.1 ▸ (Nat.zero_add _).symm
  · exact h.trans (congrArg (· + l.val) ho.2.symm)

/-- A tile's random words, in the block. -/
theorem tile_w (k : Fin k0_t1_loop.trips) (j : Fin 2) (r : Fin 128) (l : Fin 128) (l' : Fin 4096) (h : l'.val = 128 * (2 * k.val + j.val) + l.val) :
    wAt (F := Ideal) arg2 (harg2.unread x1) k j (ix2 r l) = x1 (ix2 r l') := by
  unfold wAt
  rw [View.readAt_eq_ld, harg2.read_unread]
  refine View.ld_unit_apply_of x1 _ _ _ _ _ fun a => ?_
  have ho := off2 k j
  fin_cases a
  · exact ho.1 ▸ (Nat.zero_add _).symm
  · exact h.trans (congrArg (· + l.val) ho.2.symm)

/-- A whole operand read back is itself. -/
theorem mat_eq (arg : Memref sig .tc .vmem S512x512 .bf16) (harg : arg.IsWhole) (x : Vec Ideal S512x512 .bf16) : mat arg (harg.unread x) = x := by
  unfold mat
  rw [View.readAt_eq_ld, harg.read_unread]
  exact View.ld_unit_lit _ x (by decide)

/-- The rows of a tile. -/
theorem Given.row {x0 x1 x2 x3} (h : Given x0 x1 x2 x3 A U) (k : Fin k0_t1_loop.trips) (j : Fin 2) (r : Fin 128) :
    Row x2 (xAt arg1 (harg1.unread x0) k j) (wAt (F := Ideal) arg2 (harg2.unread x1) k j) r (A r) (U r) (2 * k.val + j.val) := by
  have hk := lt16 k
  refine Row.mk h.sorts (fun q kk => ?_) (fun q => ?_) (fun q kk => ?_)
  · rw [tile_x arg1 harg1 x0 k j r _ ⟨4 * (128 * (2 * k.val + j.val) + q.val) + kk.val, by omega⟩ (by simp only; omega)]
    exact h.x r ⟨128 * (2 * k.val + j.val) + q.val, by omega⟩ kk
  · rw [tile_w arg2 harg2 x1 k j r q ⟨128 * (2 * k.val + j.val) + q.val, by omega⟩ rfl]
    exact h.w r ⟨128 * (2 * k.val + j.val) + q.val, by omega⟩
  · exact h.ok r ⟨128 * (2 * k.val + j.val) + q.val, by omega⟩ kk

/-! ## What the trips write -/

/-- What the block's dense result holds. -/
def dense (A : Fin 128 → ℕ → Fin 4 → ℝ) (U : Fin 128 → ℕ → ℝ) : Vec Ideal S128x16384 .bf16 := fun y => ((Spec.dense (A (y 0)) (U (y 0)) (y 1).val : ℝ) : EReal)
/-- What the block's codes hold. -/
def codes (A : Fin 128 → ℕ → Fin 4 → ℝ) (U : Fin 128 → ℕ → ℝ) : Vec Ideal S128x8192 .fp8e5m2 := fun y => ((Spec.code (A (y 0)) (U (y 0)) (y 1).val : ℝ) : EReal)
/-- What the block's packed channel numbers hold. -/
def packed (A : Fin 128 → ℕ → Fin 4 → ℝ) (U : Fin 128 → ℕ → ℝ) : Vec Ideal S128x2048 .i8 := fun y => BitVec.ofNat 8 (Spec.packed (A (y 0)) (U (y 0)) (y 1).val)
/-- What the block's scales hold once the tiles before `n` are done. -/
def scales (A : Fin 128 → ℕ → Fin 4 → ℝ) (n : ℕ) : Vec Ideal S128x128 .f32 :=
  fun y => if (y 1).val / 4 < n then ((Spec.scl (A (y 0)) (32 * (y 1).val) : ℝ) : EReal) else 0

/-- A piece of a result agrees with the row function, if it does entry by entry from its place on. -/
theorem piece_ok {α : EltTy} {n1 : ℕ} (off : Fin 2 → ℕ) (inb) (pay : Vec Ideal S128x128 α) (G : Vec Ideal ⟨2, ![128, n1]⟩ α) (o : ℕ) (h0 : off 0 = 0) (h1 : off 1 = o)
    (h : ∀ (r l : Fin 128) (l' : Fin n1), l'.val = o + l.val → pay (ix2 r l) = G (ix2 r l')) :
    ∀ x, pay x = G ((Rect.unit (s := (⟨2, ![128, n1]⟩ : Shape)) off S128x128.size inb).emb x) := by
  intro x
  have hb := inb 1
  have hx : (x 1).val < 128 := (x 1).isLt
  have hlt : o + (x 1).val < n1 := by
    have : off 1 + 128 ≤ n1 := hb
    omega
  have e : (Rect.unit (s := (⟨2, ![128, n1]⟩ : Shape)) off S128x128.size inb).emb x = ix2 (n0 := 128) (n1 := n1) (x 0) ⟨o + (x 1).val, hlt⟩ := by
    funext a
    apply Fin.ext
    refine (Rect.idx_unit_val off _ inb x a).trans ?_
    fin_cases a
    · show off 0 + _ = _; rw [h0]; exact Nat.zero_add _
    · show off 1 + _ = _; rw [h1]; rfl
  rw [e, ← h (x 0) (x 1) _ rfl]
  exact congrArg pay (eq_ix2 x)

/-- A trip's dense pieces hold the dense result. -/
theorem dense_ok {x0 x1 x2 x3} (h : Given x0 x1 x2 x3 A U) (k : Fin k0_t1_loop.trips) :
    ∀ p ∈ denseL kernelRun0_A.sl.v0 x2 x3 k (xAt arg1 (harg1.unread x0) k) (wAt (F := Ideal) arg2 (harg2.unread x1) k), ∀ x, p.2 x = dense A U (p.1.emb x) := by
  have hr : ∀ j r, Row x2 (xAt arg1 (harg1.unread x0) k j) (wAt (F := Ideal) arg2 (harg2.unread x1) k j) r (A r) (U r) (2 * k.val + j.val) :=
    fun j r => h.row arg1 harg1 arg2 harg2 k j r
  have key : ∀ (j : Fin 2) (q : Fin 4) (pay : Vec Ideal S128x128 .bf16),
      (∀ r l : Fin 128, pay (ix2 r l) = ((Spec.dense (A r) (U r) (512 * (2 * k.val + j.val) + (128 * q.val + l.val)) : ℝ) : EReal)) →
      ∀ x, pay x = dense A U ((denseRect k j q).emb x) := fun j q pay hp =>
    piece_ok _ _ pay (dense A U) _ (off3 k j q).1 (off3 k j q).2 fun r l l' hl => by
      rw [hp]
      show _ = ((Spec.dense (A r) (U r) l'.val : ℝ) : EReal)
      rw [hl, Nat.add_assoc]
  unfold denseL
  simp only [List.forall_mem_cons, List.not_mem_nil, false_imp_iff, implies_true, and_true]
  exact ⟨key 1 3 _ fun r l => (hr 1 r).dense3 counts h.unsorts l, key 1 2 _ fun r l => (hr 1 r).dense2 counts h.unsorts l,
    key 1 1 _ fun r l => (hr 1 r).dense1 counts h.unsorts l, key 1 0 _ fun r l => (hr 1 r).dense0 counts h.unsorts l,
    key 0 3 _ fun r l => (hr 0 r).dense3 counts h.unsorts l, key 0 2 _ fun r l => (hr 0 r).dense2 counts h.unsorts l,
    key 0 1 _ fun r l => (hr 0 r).dense1 counts h.unsorts l, key 0 0 _ fun r l => (hr 0 r).dense0 counts h.unsorts l⟩

/-- A trip's code pieces hold the codes. -/
theorem codes_ok {x0 x1 x2 x3} (h : Given x0 x1 x2 x3 A U) (k : Fin k0_t1_loop.trips) :
    ∀ p ∈ codesL kernelRun0_A.sl.v0 x2 k (xAt arg1 (harg1.unread x0) k) (wAt (F := Ideal) arg2 (harg2.unread x1) k), ∀ x, p.2 x = codes A U (p.1.emb x) := by
  have hr : ∀ j r, Row x2 (xAt arg1 (harg1.unread x0) k j) (wAt (F := Ideal) arg2 (harg2.unread x1) k j) r (A r) (U r) (2 * k.val + j.val) :=
    fun j r => h.row arg1 harg1 arg2 harg2 k j r
  have key : ∀ (j : Fin 2) (q : Fin 2) (pay : Vec Ideal S128x128 .fp8e5m2),
      (∀ r l : Fin 128, pay (ix2 r l) = ((Spec.code (A r) (U r) (256 * (2 * k.val + j.val) + (128 * q.val + l.val)) : ℝ) : EReal)) →
      ∀ x, pay x = codes A U ((codesRect k j q).emb x) := fun j q pay hp =>
    piece_ok _ _ pay (codes A U) _ (off4 k j q).1 (off4 k j q).2 fun r l l' hl => by
      rw [hp]
      show _ = ((Spec.code (A r) (U r) l'.val : ℝ) : EReal)
      rw [hl, Nat.add_assoc]
  unfold codesL
  simp only [List.forall_mem_cons, List.not_mem_nil, false_imp_iff, implies_true, and_true]
  have z : ∀ l : Fin 128, 128 * (0 : Fin 2).val + l.val = l.val := fun l => by simp
  exact ⟨key 1 1 _ fun r l => (hr 1 r).codes1 counts l, key 1 0 _ fun r l => by rw [z]; exact (hr 1 r).codes0 counts l,
    key 0 1 _ fun r l => (hr 0 r).codes1 counts l, key 0 0 _ fun r l => by rw [z]; exact (hr 0 r).codes0 counts l⟩

/-- A trip's packed pieces hold the packed channel numbers. -/
theorem meta_ok {x0 x1 x2 x3} (h : Given x0 x1 x2 x3 A U) (k : Fin k0_t1_loop.trips) :
    ∀ p ∈ metaL x2 k (xAt arg1 (harg1.unread x0) k) (wAt (F := Ideal) arg2 (harg2.unread x1) k), ∀ x, p.2 x = packed A U (p.1.emb x) := by
  unfold metaL
  simp only [List.forall_mem_cons, List.not_mem_nil, false_imp_iff, implies_true, and_true]
  refine piece_ok _ _ _ (packed A U) _ (off5 k).1 (off5 k).2 fun r l l' hl => ?_
  rw [Row.meta' (h.row arg1 harg1 arg2 harg2 k 0 r) (h.row arg1 harg1 arg2 harg2 k 1 r) l]
  show _ = BitVec.ofNat 8 (Spec.packed (A r) (U r) l'.val)
  rw [hl]

include harg2 in
/-- Two more tiles' scales. -/
theorem scales_step {x0 x1 x2 x3} (h : Given x0 x1 x2 x3 A U) (k : Fin k0_t1_loop.trips) :
    Tile.scales (tileNo k 1) (sc kernelRun0_A.sl.v0 x2 (xAt arg1 (harg1.unread x0) k 1))
      (Tile.scales (tileNo k 0) (sc kernelRun0_A.sl.v0 x2 (xAt arg1 (harg1.unread x0) k 0)) (scales A (2 * k.val))) = scales A (2 * (k.val + 1)) := by
  have hk := lt16 k
  funext y
  rw [eq_ix2 y]
  have r1 := fun prev => (h.row arg1 harg1 arg2 harg2 k 1 (y 0)).scales counts (by have : (1 : Fin 2).val = 1 := rfl; omega) prev (y 1)
  have r0 := fun prev => (h.row arg1 harg1 arg2 harg2 k 0 (y 0)).scales counts (by have : (0 : Fin 2).val = 0 := rfl; omega) prev (y 1)
  rw [tile_no, tile_no, r1, r0]
  show (if (y 1).val / 4 = 2 * k.val + 1 then _ else if (y 1).val / 4 = 2 * k.val + 0 then _ else if (y 1).val / 4 < 2 * k.val then _ else (0 : EReal))
    = if (y 1).val / 4 < 2 * (k.val + 1) then _ else (0 : EReal)
  by_cases c1 : (y 1).val / 4 = 2 * k.val + 1
  · rw [if_pos c1, if_pos (by omega)]; rfl
  · rw [if_neg c1]
    by_cases c0 : (y 1).val / 4 = 2 * k.val + 0
    · rw [if_pos c0, if_pos (by omega)]; rfl
    · rw [if_neg c0]
      by_cases c2 : (y 1).val / 4 < 2 * k.val
      · rw [if_pos c2, if_pos (by omega)]
      · rw [if_neg c2, if_neg (by omega)]

/-! ## The pieces of all trips -/

/-- The pieces of the trips before `k`, from the block's operands, the scales' buffer zeroed. -/
abbrev upTo (k : ℕ) := pieces (F := Ideal) Variants.none c none i arg1 harg1 arg2 harg2 arg3 harg3 arg4 harg4 arg5 harg5 arg6 harg6 arg7 harg7 arg8 harg8 kernelRun0_A.sl.v0 (harg1.unread x0) (harg2.unread x1) (harg3.unread x2) (harg4.unread x3)
  (arg7.view.writes (Elt Ideal) arg7.view.junk kernelRun0_A.sl.H6_1) k

/-- The pieces of the trips before `k` hold the results, and the scales' buffer the scales of their tiles. -/
theorem upTo_ok {x0 x1 x2 x3} (h : Given x0 x1 x2 x3 A U) (k : ℕ) (hk : k ≤ k0_t1_loop.trips) :
    (∀ p ∈ (upTo c i arg1 harg1 arg2 harg2 arg3 harg3 arg4 harg4 arg5 harg5 arg6 harg6 arg7 harg7 arg8 harg8 x0 x1 x2 x3 k).1, ∀ x, p.2 x = dense A U (p.1.emb x))
    ∧ (∀ p ∈ (upTo c i arg1 harg1 arg2 harg2 arg3 harg3 arg4 harg4 arg5 harg5 arg6 harg6 arg7 harg7 arg8 harg8 x0 x1 x2 x3 k).2.1, ∀ x, p.2 x = codes A U (p.1.emb x))
    ∧ (View.readAt (Elt Ideal) arg7.view scalesRect.toLoadRect (arg7.view.writes (Elt Ideal) (arg7.view.writes (Elt Ideal) arg7.view.junk kernelRun0_A.sl.H6_1) (upTo c i arg1 harg1 arg2 harg2 arg3 harg3 arg4 harg4 arg5 harg5 arg6 harg6 arg7 harg7 arg8 harg8 x0 x1 x2 x3 k).2.2.1) = scales A (2 * k))
    ∧ (∀ p ∈ (upTo c i arg1 harg1 arg2 harg2 arg3 harg3 arg4 harg4 arg5 harg5 arg6 harg6 arg7 harg7 arg8 harg8 x0 x1 x2 x3 k).2.2.2, ∀ x, p.2 x = packed A U (p.1.emb x)) := by
  induction k with
  | zero =>
    refine ⟨fun p hp => absurd hp (List.not_mem_nil), fun p hp => absurd hp (List.not_mem_nil), ?_, fun p hp => absurd hp (List.not_mem_nil)⟩
    refine (View.readAt_writes_full (Val := Elt Ideal) arg7.view arg7.view.junk _ inb_S128x128_S128x128_0_0 (k0_pay1 (F := Ideal)) []).trans ?_
    funext y
    show k0_pay1 (F := Ideal) y = if (y 1).val / 4 < 2 * 0 then _ else (0 : EReal)
    rw [if_neg (by omega)]
    pointwise [k0_pay1]
  | succ k ih =>
    obtain ⟨h4, h5, h6, h7⟩ := ih (by omega)
    have e := pb_k0_t1_succ (F := Ideal) Variants.none c none i arg1 harg1 arg2 harg2 arg3 harg3 arg4 harg4 arg5 harg5 arg6 harg6 arg7 harg7 arg8 harg8 kernelRun0_A.sl.v0 (harg1.unread x0) (harg2.unread x1) (harg3.unread x2) (harg4.unread x3)
      arg5.view.junk arg6.view.junk (arg7.view.writes (Elt Ideal) arg7.view.junk kernelRun0_A.sl.H6_1) arg8.view.junk ⟨k, hk⟩
    rw [trip_dense, trip_codes, trip_scales, trip_meta, mat_eq, mat_eq] at e
    have e' : upTo c i arg1 harg1 arg2 harg2 arg3 harg3 arg4 harg4 arg5 harg5 arg6 harg6 arg7 harg7 arg8 harg8 x0 x1 x2 x3 (k + 1) = _ := e
    rw [e']
    refine ⟨fun p hp => ?_, fun p hp => ?_, ?_, fun p hp => ?_⟩
    · rcases List.mem_append.1 hp with hp | hp
      · exact dense_ok arg1 harg1 arg2 harg2 h ⟨k, hk⟩ p hp
      · exact h4 p hp
    · rcases List.mem_append.1 hp with hp | hp
      · exact codes_ok arg1 harg1 arg2 harg2 h ⟨k, hk⟩ p hp
      · exact h5 p hp
    · refine Eq.trans ?_ (scales_step arg1 harg1 arg2 harg2 h ⟨k, hk⟩)
      rw [← h6]
      exact View.readAt_writes_full arg7.view _ _ inb_S128x128_S128x128_0_0 _ _
    · rcases List.mem_append.1 hp with hp | hp
      · exact meta_ok arg1 harg1 arg2 harg2 h ⟨k, hk⟩ p hp
      · exact h7 p hp

/-! ## The result buffers -/

/-- The dense result's buffer after the body. -/
theorem out4 {x0 x1 x2 x3} (h : Given x0 x1 x2 x3 A U) : out0_A_4 c i arg1 harg1 arg2 harg2 arg3 harg3 arg4 harg4 arg5 harg5 arg6 harg6 arg7 harg7 arg8 harg8 x0 x1 x2 x3 = dense A U := by
  unfold out0_A_4
  rw [View.read_writes_eq_canon _ _ _ (cover0_A_4 c i arg1 harg1 arg2 harg2 arg3 harg3 arg4 harg4 arg5 harg5 arg6 harg6 arg7 harg7 arg8 harg8 x0 x1 x2 x3)]
  funext y
  refine View.canon_apply_of_pieces (dense A U) _ ?_ y (cover0_A_4 c i arg1 harg1 arg2 harg2 arg3 harg3 arg4 harg4 arg5 harg5 arg6 harg6 arg7 harg7 arg8 harg8 x0 x1 x2 x3 y)
  exact (upTo_ok c i arg1 harg1 arg2 harg2 arg3 harg3 arg4 harg4 arg5 harg5 arg6 harg6 arg7 harg7 arg8 harg8 h 16 (by decide +kernel)).1

/-- The codes' buffer after the body. -/
theorem out5 {x0 x1 x2 x3} (h : Given x0 x1 x2 x3 A U) : out0_A_5 c i arg1 harg1 arg2 harg2 arg3 harg3 arg4 harg4 arg5 harg5 arg6 harg6 arg7 harg7 arg8 harg8 x0 x1 x2 x3 = codes A U := by
  unfold out0_A_5
  rw [View.read_writes_eq_canon _ _ _ (cover0_A_5 c i arg1 harg1 arg2 harg2 arg3 harg3 arg4 harg4 arg5 harg5 arg6 harg6 arg7 harg7 arg8 harg8 x0 x1 x2 x3)]
  funext y
  refine View.canon_apply_of_pieces (codes A U) _ ?_ y (cover0_A_5 c i arg1 harg1 arg2 harg2 arg3 harg3 arg4 harg4 arg5 harg5 arg6 harg6 arg7 harg7 arg8 harg8 x0 x1 x2 x3 y)
  exact (upTo_ok c i arg1 harg1 arg2 harg2 arg3 harg3 arg4 harg4 arg5 harg5 arg6 harg6 arg7 harg7 arg8 harg8 h 16 (by decide +kernel)).2.1

/-- The packed channel numbers' buffer after the body. -/
theorem out7 {x0 x1 x2 x3} (h : Given x0 x1 x2 x3 A U) : out0_A_7 c i arg1 harg1 arg2 harg2 arg3 harg3 arg4 harg4 arg5 harg5 arg6 harg6 arg7 harg7 arg8 harg8 x0 x1 x2 x3 = packed A U := by
  unfold out0_A_7
  rw [View.read_writes_eq_canon _ _ _ (cover0_A_7 c i arg1 harg1 arg2 harg2 arg3 harg3 arg4 harg4 arg5 harg5 arg6 harg6 arg7 harg7 arg8 harg8 x0 x1 x2 x3)]
  funext y
  refine View.canon_apply_of_pieces (packed A U) _ ?_ y (cover0_A_7 c i arg1 harg1 arg2 harg2 arg3 harg3 arg4 harg4 arg5 harg5 arg6 harg6 arg7 harg7 arg8 harg8 x0 x1 x2 x3 y)
  exact (upTo_ok c i arg1 harg1 arg2 harg2 arg3 harg3 arg4 harg4 arg5 harg5 arg6 harg6 arg7 harg7 arg8 harg8 h 16 (by decide +kernel)).2.2.2

/-- The scales' buffer after the body. -/
theorem out6 {x0 x1 x2 x3} (h : Given x0 x1 x2 x3 A U) : out0_A_6 c i arg1 harg1 arg2 harg2 arg3 harg3 arg4 harg4 arg5 harg5 arg6 harg6 arg7 harg7 arg8 harg8 x0 x1 x2 x3 = scales A 32 := by
  have e := (upTo_ok c i arg1 harg1 arg2 harg2 arg3 harg3 arg4 harg4 arg5 harg5 arg6 harg6 arg7 harg7 arg8 harg8 h 16 (by decide +kernel)).2.2.1
  rw [View.readAt_full, ← View.writes_append] at e
  have e := (View.read_writes_eq_canon arg7.view arg7.view.junk _ (cover0_A_6 c i arg1 harg1 arg2 harg2 arg3 harg3 arg4 harg4 arg5 harg5 arg6 harg6 arg7 harg7 arg8 harg8 x0 x1 x2 x3)).symm.trans e
  unfold out0_A_6
  rw [View.read_writes_eq_canon _ _ _ (cover0_A_6 c i arg1 harg1 arg2 harg2 arg3 harg3 arg4 harg4 arg5 harg5 arg6 harg6 arg7 harg7 arg8 harg8 x0 x1 x2 x3)]
  exact e

end body

end Cert.KernelIdeal.Whole

end
-- ==== Proof.KernelBlocks.lean ====
/- What the four result arrays hold after the run of the idealized kernel, block by block: block `t` of a result array is
   what grid point `t` wrote (`blocks4` … `blocks7`), and `run_blocks` names the four arrays. -/
module

public import proofs.«01_k».proof.Proof.KernelFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the run's contents for that window after the body (`Gen.outsAt0`: its component 0), read through the window's block. -/
theorem flushed4 (c : Dev nD) (t : Fin cfg0.N) :
    (dats m 0 c).flushed 4 t = (cfg0.win 4).cut (grid0.coords t) ((outsAt0 m c t).1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — the kernel's one case, `Gen.outsAt0` by definition. -/
theorem flushed4_A (c : Dev nD) (t : Fin cfg0.N) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t)) := by
  simp only [flushed4, outsAt0]

/-- The index map sends distinct grid points to distinct block indices (decided over the 80 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- WHAT POINT `t` WRITES BACK to output window 5's array: the run's contents for that window after the body (`Gen.outsAt0`: its component 1), read through the window's block. -/
theorem flushed5 (c : Dev nD) (t : Fin cfg0.N) :
    (dats m 0 c).flushed 5 t = (cfg0.win 5).cut (grid0.coords t) ((outsAt0 m c t).2.1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — the kernel's one case, `Gen.outsAt0` by definition. -/
theorem flushed5_A (c : Dev nD) (t : Fin cfg0.N) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t)) := by
  simp only [flushed5, outsAt0]

/-- The index map sends distinct grid points to distinct block indices (decided over the 80 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- WHAT POINT `t` WRITES BACK to output window 6's array: the run's contents for that window after the body (`Gen.outsAt0`: its component 2), read through the window's block. -/
theorem flushed6 (c : Dev nD) (t : Fin cfg0.N) :
    (dats m 0 c).flushed 6 t = (cfg0.win 6).cut (grid0.coords t) ((outsAt0 m c t).2.2.1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — the kernel's one case, `Gen.outsAt0` by definition. -/
theorem flushed6_A (c : Dev nD) (t : Fin cfg0.N) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t)) := by
  simp only [flushed6, outsAt0]

/-- The index map sends distinct grid points to distinct block indices (decided over the 80 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- WHAT POINT `t` WRITES BACK to output window 7's array: the run's contents for that window after the body (`Gen.outsAt0`: its component 3), read through the window's block. -/
theorem flushed7 (c : Dev nD) (t : Fin cfg0.N) :
    (dats m 0 c).flushed 7 t = (cfg0.win 7).cut (grid0.coords t) ((outsAt0 m c t).2.2.2) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — the kernel's one case, `Gen.outsAt0` by definition. -/
theorem flushed7_A (c : Dev nD) (t : Fin cfg0.N) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t)) := by
  simp only [flushed7, outsAt0]

/-- The index map sends distinct grid points to distinct block indices (decided over the 80 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v15_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v15_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v15_2) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v15_3) = (dats m 0 c).arrAt 7 cfg0.N :=
  (h c).1 7

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v15_0) = (dats m 0 c).arrAt 4 cfg0.N
      ∧ r.2.mem ((c : Thread nD τ).loc main_v15_1) = (dats m 0 c).arrAt 5 cfg0.N
      ∧ r.2.mem ((c : Thread nD τ).loc main_v15_2) = (dats m 0 c).arrAt 6 cfg0.N
      ∧ r.2.mem ((c : Thread nD τ).loc main_v15_3) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post4 m r h c,
      post5 m r h c,
      post6 m r h c,
      post7 m r h c,
      kept_main_arg0 m r h c,
      kept_main_arg1 m r h c⟩)
    (run_main m ρ)

end Cert.KernelIdeal.Value

end
-- ==== Proof.Results.lean ====
/- What the four result arrays hold, row by row: the row functions of the specification, for the entries and the words that
   the operands hold. -/
module

public import proofs.«01_k».proof.Proof.Spec
public import Idealize.ShloMosaic.Lib.Pipeline.ValueKit

@[expose] public section

noncomputable section

namespace Cert.Spec

open Idealize.ShloMosaic

/-- The entries and the words of the 10240 rows, as the numbers they stand for. -/
structure Rows (X : Vec Ideal ⟨2, ![10240, 16384]⟩ .bf16) (W : Vec Ideal ⟨2, ![10240, 4096]⟩ .i32)
    (A : Fin 10240 → ℕ → Fin 4 → ℝ) (U : Fin 10240 → ℕ → ℝ) : Prop where
  x : ∀ (r : Fin 10240) (g : Fin 4096) (k : Fin 4), X (ix2 r ⟨4 * g.val + k.val, by omega⟩) = ((A r g.val k : ℝ) : EReal)
  w : ∀ (r : Fin 10240) (g : Fin 4096), U r g.val = uOf (W (ix2 r g))
  ok : ∀ (r : Fin 10240) (g : Fin 4096) (k : Fin 4), Ok (A r g.val k)

/-- The dense result. -/
def denseArr (A : Fin 10240 → ℕ → Fin 4 → ℝ) (U : Fin 10240 → ℕ → ℝ) : Vec Ideal ⟨2, ![10240, 16384]⟩ .bf16 := fun y => ((dense (A (y 0)) (U (y 0)) (y 1).val : ℝ) : EReal)
/-- The codes. -/
def codesArr (A : Fin 10240 → ℕ → Fin 4 → ℝ) (U : Fin 10240 → ℕ → ℝ) : Vec Ideal ⟨2, ![10240, 8192]⟩ .fp8e5m2 := fun y => ((code (A (y 0)) (U (y 0)) (y 1).val : ℝ) : EReal)
/-- The scales of the blocks of 32 groups. -/
def scalesArr (A : Fin 10240 → ℕ → Fin 4 → ℝ) : Vec Ideal ⟨2, ![10240, 128]⟩ .f32 := fun y => ((scl (A (y 0)) (32 * (y 1).val) : ℝ) : EReal)
/-- The packed channel numbers. -/
def packedArr (A : Fin 10240 → ℕ → Fin 4 → ℝ) (U : Fin 10240 → ℕ → ℝ) : Vec Ideal ⟨2, ![10240, 2048]⟩ .i8 := fun y => BitVec.ofNat 8 (packed (A (y 0)) (U (y 0)) (y 1).val)

end Cert.Spec

end
-- ==== Proof.KernelArrays.lean ====
/- What the four result arrays hold after the run of the idealized kernel: row by row, the row functions of the
   specification. -/
module

public import proofs.«01_k».proof.Proof.KernelWhole
public import proofs.«01_k».proof.Proof.KernelBlocks
public import proofs.«01_k».proof.Proof.Results
public import Idealize.ShloMosaic.Lib.Claim

@[expose] public section

set_option maxRecDepth 16384

noncomputable section

namespace Cert.KernelIdeal.Value

open Cert.KernelIdeal Cert.KernelIdeal.Gen Cert.KernelIdeal.Tile Cert.KernelIdeal.Whole Idealize.ShloMosaic Idealize.ShloMosaic.TcCoe Idealize.SL.Sem
open Idealize.ShloMosaic.Tactic
open Idealize.ShloMosaic.Pipeline (Dat)

variable (m : (ℓ : Loc nD τ sig) → Buf (Elt Ideal) ℓ)

/-- The first argument, its two leading axes joined. -/
def X (c : Dev nD) : Vec Ideal S10240x16384 .bf16 := shapeCast S10240x16384 (m ((c : Thread nD τ).loc main_arg0)) shapeCasts_S4x2560x16384_S10240x16384
/-- The second. -/
def W (c : Dev nD) : Vec Ideal S10240x4096 .i32 := shapeCast S10240x4096 (m ((c : Thread nD τ).loc main_arg1)) shapeCasts_S4x2560x4096_S10240x4096

/-- The first operand is the flattened first argument. -/
theorem V_v0 (c : Dev nD) : V m c main_v0 = X m c := by entry_read; rfl
/-- The second operand is the flattened second argument. -/
theorem V_v1 (c : Dev nD) : V m c main_v1 = W m c := by entry_read; rfl

/-- The place that column `c` of the matrix picks, as the host computes it. -/
theorem place : ∀ c : Fin 512, IntOp.addi (IntOp.muli 4#32 (IntOp.andi (BitVec.ofNat 32 c.val) 127#32)) (IntOp.shrsi .host (BitVec.ofNat 32 c.val) 7#32)
    = BitVec.ofNat 32 (4 * (c.val % 128) + c.val / 128) := by decide +kernel

/-- Words of two numbers below 512 are equal exactly if the numbers are. -/
theorem same_word (i : Fin 512) (n : ℕ) (h : n < 512) : IntOp.cmpi .eq (BitVec.ofNat 32 i.val) (BitVec.ofNat 32 n) = BitVec.ofBool (decide (i.val = n)) := by
  have e : (BitVec.ofNat 32 i.val = BitVec.ofNat 32 n) ↔ i.val = n := by
    rw [← BitVec.toNat_inj, BitVec.toNat_ofNat, BitVec.toNat_ofNat, Nat.mod_eq_of_lt (by omega), Nat.mod_eq_of_lt (by omega)]
  show BitVec.ofBool (BitVec.ofNat 32 i.val == BitVec.ofNat 32 n) = _
  rw [Bool.eq_iff_iff.2 (by simpa using e : (BitVec.ofNat 32 i.val == BitVec.ofNat 32 n) = true ↔ decide (i.val = n) = true)]

/-- The matrix that sorts a tile's channels apart, as the host computes it. -/
def pd : Vec Ideal S512x512 .bf16 :=
  truncf .bf16
    (select (cmpi .eq (iotaInDim S512x512 32 0)
        (addi (muli (broadcastInDim S512x512 ![] bcast_S_S512x512 (constantI S_ 32 4#32))
            (andi (iotaInDim S512x512 32 1) (broadcastInDim S512x512 ![] bcast_S_S512x512 (constantI S_ 32 127#32))))
          (Host.shrsi (iotaInDim S512x512 32 1) (broadcastInDim S512x512 ![] bcast_S_S512x512 (constantI S_ 32 7#32)))))
      (broadcastInDim S512x512 ![] bcast_S_S512x512 (constant (F := Ideal) S_ .f32 0x3F800000#32))
      (broadcastInDim S512x512 ![] bcast_S_S512x512 (constant (F := Ideal) S_ .f32 0x00000000#32))) bitsLt_bf16_f32

/-- The third operand is the sorting matrix. -/
theorem V_v13 (c : Dev nD) : V m c main_v13 = pd := by
  simp only [V, hostOps0, hostOps0_1, hostOps0_2, List.flatten_cons, List.flatten_nil, List.cons_append, List.nil_append]
  entry_read
  rfl
/-- The fourth operand is its transpose. -/
theorem V_v14 (c : Dev nD) : V m c main_v14 = transpose S512x512 [1, 0] pd transposes_S512x512_S512x512_1_0 := by
  simp only [V, hostOps0, hostOps0_1, hostOps0_2, List.flatten_cons, List.flatten_nil, List.cons_append, List.nil_append]
  entry_read
  rfl

/-- The matrix sorts a tile by channel. -/
theorem sorts : Sorts pd := by
  intro i j
  pointwise [pd]
  simp only [place, same_word i (4 * (j.val % 128) + j.val / 128) (by omega), Scalar.select_decide]

/-- Its transpose sorts it back. -/
theorem unsorts : Unsorts (transpose S512x512 [1, 0] pd transposes_S512x512_S512x512_1_0) := by
  intro i j
  refine Eq.trans ?_ (sorts j i)
  pointwise []

/-- At point `t` the first operand's block is number `t`. -/
theorem idx0 : ∀ t, win0_0.index t = ![t.val, 0] := (by decide +kernel : ∀ t : Fin grid0.N, _)
/-- At point `t` the second operand's block is number `t`. -/
theorem idx1 : ∀ t, win0_1.index t = ![t.val, 0] := (by decide +kernel : ∀ t : Fin grid0.N, _)
/-- At every point the third operand's block is the whole of it. -/
theorem idx2 : ∀ t, win0_2.index t = ![0, 0] := (by decide +kernel : ∀ t : Fin grid0.N, _)
/-- At every point the fourth operand's block is the whole of it. -/
theorem idx3 : ∀ t, win0_3.index t = ![0, 0] := (by decide +kernel : ∀ t : Fin grid0.N, _)
/-- At point `t` the dense result's block is number `t`. -/
theorem idx4 : ∀ t, win0_4.index t = ![t.val, 0] := (by decide +kernel : ∀ t : Fin grid0.N, _)
/-- At point `t` the codes' block is number `t`. -/
theorem idx5 : ∀ t, win0_5.index t = ![t.val, 0] := (by decide +kernel : ∀ t : Fin grid0.N, _)
/-- At point `t` the scales' block is number `t`. -/
theorem idx6 : ∀ t, win0_6.index t = ![t.val, 0] := (by decide +kernel : ∀ t : Fin grid0.N, _)
/-- At point `t` the packed channel numbers' block is number `t`. -/
theorem idx7 : ∀ t, win0_7.index t = ![t.val, 0] := (by decide +kernel : ∀ t : Fin grid0.N, _)

/-- There are 80 grid points. -/
theorem lt80 (t : Fin cfg0.N) : t.val < 80 := t.isLt

variable {m} {A : Fin 10240 → ℕ → Fin 4 → ℝ} {U : Fin 10240 → ℕ → ℝ}

/-- The operands of grid point `t`. -/
theorem given (c : Dev nD) (h : Spec.Rows (X m c) (W m c) A U) (t : Fin cfg0.N) :
    Given (iblk m c 0 t) (iblk m c 1 t) (iblk m c 2 t) (iblk m c 3 t)
      (fun r => A ⟨128 * t.val + r.val, by have := lt80 t; omega⟩) (fun r => U ⟨128 * t.val + r.val, by have := lt80 t; omega⟩) := by
  have ht := lt80 t
  refine ⟨?_, ?_, fun r g k => ?_, fun r g => ?_, fun r g k => h.ok _ g k⟩
  · intro i j
    rw [← sorts i j, ← V_v13 m c]
    blk_simp [iblk, idx2 t]
    congr 1
    blk_ext [idx2 t]
  · intro i j
    rw [← unsorts i j, ← V_v14 m c]
    blk_simp [iblk, idx3 t]
    congr 1
    blk_ext [idx3 t]
  · rw [← h.x]
    blk_simp [iblk, idx0 t]
    rw [V_v0]
    congr 1
    blk_ext [idx0 t]
  · rw [h.w]
    blk_simp [iblk, idx1 t]
    rw [V_v1]
    congr 2
    blk_ext [idx1 t]

/-! ## The arrays -/

/-- The dense result's array after the run. -/
theorem arr4 (c : Dev nD) (h : Spec.Rows (X m c) (W m c) A U) : (dats m 0 c).arrAt 4 cfg0.N = Spec.denseArr A U := by
  refine (dats m 0 c).arrAt_eq_of_covers 4 (Spec.denseArr A U) (by decide +kernel) fun t _ y => ?_
  have e : (win0_4.blk t).view.emb y = ix2 (n0 := 10240) (n1 := 16384) ⟨128 * t.val + (y 0).val, by have := lt80 t; have : (y 0).val < 128 := (y 0).isLt; omega⟩ (y 1) := by
    blk_ext [idx4 t]
  blk_simp
  rw [after0_4, e]
  simp only [outsAt0]
  rw [out4 _ _ _ _ _ _ _ _ _ _ _ _ _ _ _ _ _ _ (given c h t)]
  rfl

/-- The codes' array after the run. -/
theorem arr5 (c : Dev nD) (h : Spec.Rows (X m c) (W m c) A U) : (dats m 0 c).arrAt 5 cfg0.N = Spec.codesArr A U := by
  refine (dats m 0 c).arrAt_eq_of_covers 5 (Spec.codesArr A U) (by decide +kernel) fun t _ y => ?_
  have e : (win0_5.blk t).view.emb y = ix2 (n0 := 10240) (n1 := 8192) ⟨128 * t.val + (y 0).val, by have := lt80 t; have : (y 0).val < 128 := (y 0).isLt; omega⟩ (y 1) := by
    blk_ext [idx5 t]
  blk_simp
  rw [after0_5, e]
  simp only [outsAt0]
  rw [out5 _ _ _ _ _ _ _ _ _ _ _ _ _ _ _ _ _ _ (given c h t)]
  rfl

/-- The scales' array after the run. -/
theorem arr6 (c : Dev nD) (h : Spec.Rows (X m c) (W m c) A U) : (dats m 0 c).arrAt 6 cfg0.N = Spec.scalesArr A := by
  refine (dats m 0 c).arrAt_eq_of_covers 6 (Spec.scalesArr A) (by decide +kernel) fun t _ y => ?_
  have e : (win0_6.blk t).view.emb y = ix2 (n0 := 10240) (n1 := 128) ⟨128 * t.val + (y 0).val, by have := lt80 t; have : (y 0).val < 128 := (y 0).isLt; omega⟩ (y 1) := by
    blk_ext [idx6 t]
  blk_simp
  rw [after0_6, e]
  simp only [outsAt0]
  rw [out6 _ _ _ _ _ _ _ _ _ _ _ _ _ _ _ _ _ _ (given c h t)]
  have hy : (y 1).val < 128 := (y 1).isLt
  exact if_pos (by omega)

/-- The packed channel numbers' array after the run. -/
theorem arr7 (c : Dev nD) (h : Spec.Rows (X m c) (W m c) A U) : (dats m 0 c).arrAt 7 cfg0.N = Spec.packedArr A U := by
  refine (dats m 0 c).arrAt_eq_of_covers 7 (Spec.packedArr A U) (by decide +kernel) fun t _ y => ?_
  have e : (win0_7.blk t).view.emb y = ix2 (n0 := 10240) (n1 := 2048) ⟨128 * t.val + (y 0).val, by have := lt80 t; have : (y 0).val < 128 := (y 0).isLt; omega⟩ (y 1) := by
    blk_ext [idx7 t]
  blk_simp
  rw [after0_7, e]
  simp only [outsAt0]
  rw [out7 _ _ _ _ _ _ _ _ _ _ _ _ _ _ _ _ _ _ (given c h t)]
  rfl

end Cert.KernelIdeal.Value

end
-- ==== Proof.ReferenceGroup.lean ====
/- What the reference computes for one group: its two channels, by the cases of `Spec.rlo` and `Spec.rhi`, are those of the
   specification (`Vals.lo`, `Vals.hi`), and the two values that it writes into a block are the kept ones
   (`Vals.low_value`, `Vals.high_value`). -/
module

public import proofs.«01_k».proof.Proof.Choice
public import proofs.«01_k».proof.Proof.Consts
public import proofs.«01_k».proof.Proof.Gen.ReferenceIdeal.Frame
public import Idealize.ShloMosaic.Lib.Pipeline.ValueKit

@[expose] public section

set_option maxRecDepth 16384

noncomputable section

namespace Cert.ReferenceIdeal.Group
open Cert.ReferenceIdeal Cert.ReferenceIdeal.Gen Idealize.ShloMosaic Idealize.ShloMosaic.TcCoe Idealize.ShloMosaic.Tactic Cert.Consts

/-! ## Channel numbers in words -/

/-- The f32 constant of these bits, as a real. -/
theorem f32_BF800000 : Ideal.ofBits .f32 0xBF800000#32 = ((-1 : ℝ) : EReal) := by
  simp [Ideal.ofBits, Ideal.ieee, -EReal.coe_mul, -EReal.coe_pow]; try norm_num

/-- Equality of small numbers as words. -/
theorem eq_nat {m n : ℕ} (hm : m < 8) (hn : n < 8) : IntOp.cmpi CmpIPredicate.eq (BitVec.ofNat 32 m) (BitVec.ofNat 32 n) = bit (m = n) := by
  have : ∀ m < 8, ∀ n < 8, IntOp.cmpi CmpIPredicate.eq (BitVec.ofNat 32 m) (BitVec.ofNat 32 n) = BitVec.ofBool (decide (m = n)) := by decide +kernel
  rw [this m hm n hn, bit]
  by_cases h : m = n <;> simp [h]

/-- The order of small numbers as words. -/
theorem le_nat {m n : ℕ} (hm : m < 8) (hn : n < 8) : IntOp.cmpi CmpIPredicate.sle (BitVec.ofNat 32 m) (BitVec.ofNat 32 n) = bit (m ≤ n) := by
  have : ∀ m < 8, ∀ n < 8, IntOp.cmpi CmpIPredicate.sle (BitVec.ofNat 32 m) (BitVec.ofNat 32 n) = BitVec.ofBool (decide (m ≤ n)) := by decide +kernel
  rw [this m hm n hn, bit]
  by_cases h : m ≤ n <;> simp [h]

/-- The minimum of small numbers as words. -/
theorem min_nat {m n : ℕ} (hm : m < 8) (hn : n < 8) : IntOp.minsi (BitVec.ofNat 32 m) (BitVec.ofNat 32 n) = BitVec.ofNat 32 (min m n) := by
  have : ∀ m < 8, ∀ n < 8, IntOp.minsi (BitVec.ofNat 32 m) (BitVec.ofNat 32 n) = BitVec.ofNat 32 (min m n) := by decide +kernel
  exact this m hm n hn

/-- The maximum of small numbers as words. -/
theorem max_nat {m n : ℕ} (hm : m < 8) (hn : n < 8) : IntOp.maxsi (BitVec.ofNat 32 m) (BitVec.ofNat 32 n) = BitVec.ofNat 32 (max m n) := by
  have : ∀ m < 8, ∀ n < 8, IntOp.maxsi (BitVec.ofNat 32 m) (BitVec.ofNat 32 n) = BitVec.ofNat 32 (max m n) := by decide +kernel
  exact this m hm n hn

/-- The sum of numbers as words. -/
theorem add_nat (m n : ℕ) : IntOp.addi (BitVec.ofNat 32 m) (BitVec.ofNat 32 n) = BitVec.ofNat 32 (m + n) := (BitVec.ofNat_add m n).symm

open Classical in
/-- A bit widened to a word is 1 or 0. -/
theorem ext_bit (p : Prop) : BitVec.setWidth 32 (bit p) = BitVec.ofNat 32 (if p then 1 else 0) := by
  unfold bit; by_cases h : p <;> simp [h]

/-- Equivalent statements have the same bit. -/
theorem bit_congr {p q : Prop} (h : p ↔ q) : bit p = bit q := by rw [propext h]

/-- The sign, from two comparisons. -/
theorem sgn_coe (x : ℝ) [Decidable ((0 : EReal) < (x : EReal))] [Decidable ((x : EReal) < 0)] :
    (if (0 : EReal) < (x : EReal) then (1 : EReal) else if (x : EReal) < 0 then Ideal.ofBits .f32 0xBF800000#32 else 0)
      = ((Spec.sgn x : ℝ) : EReal) := by
  simp only [EReal.coe_pos, EReal.coe_neg', f32_BF800000]
  unfold Spec.sgn
  split_ifs <;> simp

/-- One of four entries, from a chain of tests. -/
theorem pick4 (a : Fin 4 → ℝ) (n : Fin 4) :
    Scalar.select (IntOp.cmpi CmpIPredicate.eq (BitVec.ofNat 32 n.val) 0#32) ((a 0 : ℝ) : EReal)
      (Scalar.select (IntOp.cmpi CmpIPredicate.eq (BitVec.ofNat 32 n.val) 1#32) ((a 1 : ℝ) : EReal)
        (Scalar.select (IntOp.cmpi CmpIPredicate.eq (BitVec.ofNat 32 n.val) 2#32) ((a 2 : ℝ) : EReal) ((a 3 : ℝ) : EReal)))
      = ((a n : ℝ) : EReal) := by
  have h := n.isLt
  rw [eq_nat (n := 0) (by omega) (by omega), eq_nat (n := 1) (by omega) (by omega), eq_nat (n := 2) (by omega) (by omega),
    sel_bit, sel_bit, sel_bit]
  fin_cases n <;> simp

/-! ## The group at row `r`, place `g` -/

variable {x0 : Vec Ideal S10240x16384 .bf16} {x1 : Vec Ideal S10240x4096 .i32} {r : Fin 10240} {g : Fin 4096}
  {a : Fin 4 → ℝ} {u : ℝ}

/-- The body's load of the first operand reads the whole of it. -/
theorem ld0 (x0 : Vec Ideal S10240x16384 .bf16) : View.ld x0 r0_0 = x0 := View.ld_unit_lit _ x0 (by decide)
/-- The body's load of the second operand reads the whole of it. -/
theorem ld1 (x1 : Vec Ideal S10240x4096 .i32) : View.ld x1 r0_1 = x1 := View.ld_unit_lit _ x1 (by decide)

/-- The four entries of the group, and its random number. -/
structure Vals (x0 : Vec Ideal S10240x16384 .bf16) (x1 : Vec Ideal S10240x4096 .i32) (r : Fin 10240) (g : Fin 4096)
    (a : Fin 4 → ℝ) (u : ℝ) : Prop where
  x : ∀ k : Fin 4, x0 (ix2 r ⟨4 * g.val + k.val, by have := g.isLt; have := k.isLt; omega⟩) = ((a k : ℝ) : EReal)
  eu : u = Spec.uOf (x1 (ix2 r g))
  ok : ∀ k, Spec.Ok (a k)

namespace Vals
variable (v : Vals x0 x1 r g a u)
include v

/-- The draw is not negative. -/
theorem u0 : 0 ≤ u := by rw [v.eu]; exact Spec.uOf_nonneg _
/-- The draw is below one. -/
theorem u1 : u < 1 := by rw [v.eu]; exact Spec.uOf_lt_one _

/-- The operand at the group's column `k` is the group's entry `k`. -/
theorem at_col (k : Fin 4) (c : ℕ) (hc : c < 16384) (h : c = 4 * g.val + k.val) : x0 (ix2 r ⟨c, hc⟩) = ((a k : ℝ) : EReal) := by
  subst h; exact v.x k

/-- The group's first entry. -/
theorem e0 : k0_pay2 x0 (ix2 r g) = ((a 0 : ℝ) : EReal) := by
  pointwise [k0_pay2, k0_pay1]; exact v.at_col 0 _ _ (by simp; omega)
/-- The group's second entry. -/
theorem e1 : k0_pay3 x0 (ix2 r g) = ((a 1 : ℝ) : EReal) := by
  pointwise [k0_pay3, k0_pay1]; exact v.at_col 1 _ _ (by simp; omega)
/-- The group's third entry. -/
theorem e2 : k0_pay4 x0 (ix2 r g) = ((a 2 : ℝ) : EReal) := by
  pointwise [k0_pay4, k0_pay1]; exact v.at_col 2 _ _ (by simp; omega)
/-- The group's fourth entry. -/
theorem e3 : k0_pay5 x0 (ix2 r g) = ((a 3 : ℝ) : EReal) := by
  pointwise [k0_pay5, k0_pay1]; exact v.at_col 3 _ _ (by simp; omega)
/-- The magnitude of the first entry. -/
theorem m0 : k0_pay6 x0 (ix2 r g) = ((|a 0| : ℝ) : EReal) := by
  pointwise [k0_pay6]; rw [v.e0, absf_coe]
/-- The magnitude of the second entry. -/
theorem m1 : k0_pay7 x0 (ix2 r g) = ((|a 1| : ℝ) : EReal) := by
  pointwise [k0_pay7]; rw [v.e1, absf_coe]
/-- The magnitude of the third entry. -/
theorem m2 : k0_pay8 x0 (ix2 r g) = ((|a 2| : ℝ) : EReal) := by
  pointwise [k0_pay8]; rw [v.e2, absf_coe]
/-- The magnitude of the fourth entry. -/
theorem m3 : k0_pay9 x0 (ix2 r g) = ((|a 3| : ℝ) : EReal) := by
  pointwise [k0_pay9]; rw [v.e3, absf_coe]
/-- The sum of the first two magnitudes. -/
theorem c2 : k0_pay10 x0 (ix2 r g) = ((Spec.c2 a : ℝ) : EReal) := by
  pointwise [k0_pay10]; rw [v.m0, v.m1, ← EReal.coe_add]; rfl
/-- The sum of the first three magnitudes. -/
theorem c3 : k0_pay11 x0 (ix2 r g) = ((Spec.c3 a : ℝ) : EReal) := by
  pointwise [k0_pay11]; rw [v.c2, v.m2, ← EReal.coe_add]; rfl
/-- The sum of the four magnitudes. -/
theorem total : k0_pay12 x0 (ix2 r g) = ((Spec.total a : ℝ) : EReal) := by
  pointwise [k0_pay12]; rw [v.c3, v.m3, ← EReal.coe_add]; rfl
/-- The largest magnitude. -/
theorem top : k0_pay13 x0 (ix2 r g) = ((Spec.top a : ℝ) : EReal) := by
  pointwise [k0_pay13]; rw [v.m0, v.m1, v.m2, v.m3, max_coe, max_coe, max_coe]; rfl

/-- The number of the first entry of largest magnitude. -/
theorem jm : k0_pay14 x0 (ix2 r g) = BitVec.ofNat 32 (Spec.jm a) := by
  pointwise [k0_pay14]
  rw [v.m0, v.m1, v.m2, v.top]
  simp only [EReal.coe_eq_coe_iff]
  unfold Spec.jm
  split_ifs <;> rfl
/-- The draw. -/
theorem uu : k0_pay15 x1 (ix2 r g) = ((u : ℝ) : EReal) := by
  pointwise [k0_pay15]; rw [u_coe, v.eu]
/-- The test for the case of one entry of at least half the total. -/
theorem caseC : k0_pay16 x0 (ix2 r g) = bit (Spec.CaseC a) := by
  pointwise [k0_pay16]; rw [v.total, v.top, f32_40000000, ← EReal.coe_mul, bit_le]; rfl
/-- What is left of the total beside the largest magnitude. -/
theorem rest : k0_pay17 x0 (ix2 r g) = ((Spec.rest a : ℝ) : EReal) := by
  pointwise [k0_pay17]; rw [v.total, v.top, ← EReal.coe_sub]; rfl
/-- The test "the largest entry is the first". -/
theorem jm0 : k0_pay18 x0 (ix2 r g) = bit (Spec.jm a ≤ 0) := by
  pointwise [k0_pay18]; rw [v.jm]; exact le_nat (by have := Spec.jm_lt (a := a); omega) (by omega)

/-- The other channel where the largest entry is at least half of the total. -/
theorem sec : k0_pay20 (k0_pay6 x0) (k0_pay7 x0) (k0_pay8 x0) (k0_pay14 x0) (k0_pay15 x1) (k0_pay17 x0) (k0_pay18 x0) 0#32 k0_pay19 (ix2 r g)
    = BitVec.ofNat 32 (Spec.sec a u) := by
  have h := Spec.jm_lt (a := a)
  have h1 : k0_pay19 (ix2 r g) = 1#32 := by pointwise [k0_pay19]
  pointwise [k0_pay20]
  rw [v.m0, v.m1, v.m2, v.jm, v.uu, v.rest, v.jm0, h1, eq_nat (n := 0) (by omega) (by omega), le_nat (n := 1) (by omega) (by omega),
    le_nat (n := 2) (by omega) (by omega)]
  simp only [sel_bit, ite_coe, ← EReal.coe_mul, ← EReal.coe_add, EReal.coe_lt_coe_iff, EReal.coe_eq_zero]
  unfold Spec.sec
  by_cases h0 : Spec.rest a = 0
  · rw [if_pos h0, if_pos h0]; split_ifs <;> rfl
  · rw [if_neg h0, if_neg h0]
    split_ifs <;> first | rfl | contradiction

/-- The second channel is below four. -/
theorem sec_lt : Spec.sec a u < 4 := by unfold Spec.sec; split_ifs <;> omega

/-- The lower channel, in the case of one large entry. -/
theorem loC : k0_pay58 x0 x1 (ix2 r g) = BitVec.ofNat 32 (min (Spec.jm a) (Spec.sec a u)) := by
  unfold k0_pay58 k0_pay46 k0_pay47 k0_pay48 k0_pay52 k0_pay53 k0_pay55 k0_pay56 k0_pay57
  rw [ld0, ld1]
  pointwise [k0_pay21]
  rw [v.sec, v.jm]
  exact min_nat (by have := Spec.jm_lt (a := a); omega) (by have := v.sec_lt; omega)
/-- The higher channel, in the case of one large entry. -/
theorem hiC : k0_pay59 x0 x1 (ix2 r g) = BitVec.ofNat 32 (max (Spec.jm a) (Spec.sec a u)) := by
  unfold k0_pay59 k0_pay46 k0_pay47 k0_pay48 k0_pay52 k0_pay53 k0_pay55 k0_pay56 k0_pay57
  rw [ld0, ld1]
  pointwise [k0_pay22]
  rw [v.sec, v.jm]
  exact max_nat (by have := Spec.jm_lt (a := a); omega) (by have := v.sec_lt; omega)

/-- Half of the total. -/
theorem half : k0_pay23 (k0_pay12 x0) (ix2 r g) = ((Spec.half a : ℝ) : EReal) := by
  pointwise [k0_pay23]; rw [v.total, f32_3F000000, ← EReal.coe_mul, Spec.half, one_div]
/-- The first point of the systematic draw. -/
theorem t1 : k0_pay24 (k0_pay12 x0) (k0_pay15 x1) (ix2 r g) = ((u * Spec.half a : ℝ) : EReal) := by
  have h := v.half
  pointwise [k0_pay24]; rw [v.uu, h, ← EReal.coe_mul]
/-- The second point of the systematic draw. -/
theorem t2 : k0_pay25 (k0_pay12 x0) (k0_pay15 x1) (ix2 r g) = ((u * Spec.half a + Spec.half a : ℝ) : EReal) := by
  have h := v.half
  have h1 := v.t1
  pointwise [k0_pay25]; rw [h1, h, ← EReal.coe_add]

/-- The first channel of the systematic draw. -/
theorem first : k0_pay61 x0 x1 (ix2 r g) = BitVec.ofNat 32 (Spec.first a u) := by
  unfold k0_pay61 k0_pay46 k0_pay49 k0_pay50 k0_pay51 k0_pay53
  rw [ld0, ld1]
  pointwise [k0_pay26]
  rw [v.t1, v.m0, v.c2, v.c3, bit_le, bit_le, bit_le, ext_bit, ext_bit, ext_bit, add_nat, add_nat,
    show (2#32 : BitVec 32) = BitVec.ofNat 32 2 from rfl, min_nat (by omega) (by split_ifs <;> omega)]
  unfold Spec.first Spec.count
  congr 2

/-- The lower channel is the specification's. -/
theorem lo : k0_pay64 x0 x1 (ix2 r g) = BitVec.ofNat 32 (Spec.lo a u).val := by
  rw [← (Spec.choice_eq v.u0 v.u1 v.ok).1]
  unfold k0_pay64 k0_pay54
  rw [ld0]
  pointwise [k0_pay29]
  rw [v.caseC, v.loC, v.first, sel_bit]
  unfold Spec.rlo
  split_ifs <;> rfl

/-- The first channel of the systematic draw is at most 2. -/
theorem first_le : Spec.first a u ≤ 2 := min_le_left _ _

/-- The higher channel is the specification's. -/
theorem hi : k0_pay65 x0 x1 (ix2 r g) = BitVec.ofNat 32 (Spec.hi a u).val := by
  rw [← (Spec.choice_eq v.u0 v.u1 v.ok).2]
  unfold k0_pay65 k0_pay54 k0_pay62 k0_pay63 k0_pay46 k0_pay49 k0_pay50 k0_pay51 k0_pay53
  rw [ld0, ld1]
  pointwise [k0_pay30, k0_pay27, k0_pay28]
  rw [v.caseC, v.hiC, v.first, v.t2, v.m0, v.c2, v.c3, bit_le, bit_le, bit_le, ext_bit, ext_bit, ext_bit, add_nat, add_nat,
    show (1#32 : BitVec 32) = BitVec.ofNat 32 1 from rfl, add_nat,
    show (3#32 : BitVec 32) = BitVec.ofNat 32 3 from rfl,
    max_nat (by split_ifs <;> omega) (by have := v.first_le; omega),
    min_nat (by omega) (by have := v.first_le; split_ifs <;> omega), sel_bit]
  unfold Spec.rhi Spec.second Spec.count
  by_cases h : Spec.CaseC a
  · rw [if_pos h, if_pos h]
  · rw [if_neg h, if_neg h]

/-- The entry at the lower channel. -/
theorem aLo : k0_pay66 x0 x1 (ix2 r g) = ((a (Spec.lo a u) : ℝ) : EReal) := by
  have h := v.lo
  unfold k0_pay64 at h
  unfold k0_pay66 k0_pay42 k0_pay43 k0_pay44 k0_pay45
  rw [ld0]
  pointwise [k0_pay31]
  rw [h, v.e0, v.e1, v.e2, v.e3]
  exact pick4 a _
/-- The entry at the higher channel. -/
theorem aHi : k0_pay67 x0 x1 (ix2 r g) = ((a (Spec.hi a u) : ℝ) : EReal) := by
  have h := v.hi
  unfold k0_pay65 at h
  unfold k0_pay67 k0_pay42 k0_pay43 k0_pay44 k0_pay45
  rw [ld0]
  pointwise [k0_pay32]
  rw [h, v.e0, v.e1, v.e2, v.e3]
  exact pick4 a _

/-- What the lower channel takes if the large entry is the other one. -/
theorem otherLo : k0_pay68 x0 x1 (ix2 r g) = ((if Spec.rest a = 0 then 0 else Spec.sgn (a (Spec.lo a u)) * Spec.rest a : ℝ) : EReal) := by
  have h := v.aLo
  unfold k0_pay66 at h
  unfold k0_pay68 k0_pay55
  rw [ld0]
  pointwise [k0_pay33]
  rw [v.rest, h, sgn_coe, ← EReal.coe_mul]
  simp only [EReal.coe_eq_zero]
  split_ifs <;> simp

/-- The value that the reference keeps at the lower channel. -/
theorem low_value : Scalar.select (k0_pay54 x0 x1 (ix2 r g))
      (Scalar.select (IntOp.cmpi CmpIPredicate.eq (k0_pay64 x0 x1 (ix2 r g)) (k0_pay52 x0 x1 (ix2 r g))) (k0_pay66 x0 x1 (ix2 r g)) (k0_pay68 x0 x1 (ix2 r g)))
      ((if 0 < k0_pay66 x0 x1 (ix2 r g) then 1 else if k0_pay66 x0 x1 (ix2 r g) < 0 then Ideal.ofBits FTy.f32 3212836864#32 else 0)
        * k0_pay60 x0 x1 (ix2 r g)) = ((Spec.vLo a u : ℝ) : EReal) := by
  rw [v.aLo, v.otherLo, v.lo]
  unfold k0_pay54 k0_pay52 k0_pay60 k0_pay51
  rw [ld0, v.caseC, v.jm, v.half, sgn_coe, ← EReal.coe_mul, sel_bit,
    eq_nat (by have := (Spec.lo a u).isLt; omega) (by have := Spec.jm_lt (a := a); omega), sel_bit,
    Spec.vLo_eq v.u0 v.u1 v.ok]
  split_ifs <;> rfl

/-- The value that the reference keeps at the higher channel. -/
theorem high_value : Scalar.select (k0_pay54 x0 x1 (ix2 r g))
      (Scalar.select (IntOp.cmpi CmpIPredicate.eq (k0_pay65 x0 x1 (ix2 r g)) (k0_pay52 x0 x1 (ix2 r g))) (k0_pay67 x0 x1 (ix2 r g))
        (Scalar.select (k0_pay69 x0 x1 (ix2 r g)) 0
          ((if 0 < k0_pay67 x0 x1 (ix2 r g) then 1 else if k0_pay67 x0 x1 (ix2 r g) < 0 then Ideal.ofBits FTy.f32 3212836864#32 else 0)
            * k0_pay55 x0 x1 (ix2 r g))))
      ((if 0 < k0_pay67 x0 x1 (ix2 r g) then 1 else if k0_pay67 x0 x1 (ix2 r g) < 0 then Ideal.ofBits FTy.f32 3212836864#32 else 0)
        * k0_pay60 x0 x1 (ix2 r g)) = ((Spec.vHi a u : ℝ) : EReal) := by
  have h69 : k0_pay69 x0 x1 (ix2 r g) = bit (Spec.rest a = 0) := by
    unfold k0_pay69 k0_pay55
    rw [ld0]
    pointwise [k0_pay34]
    rw [v.rest]
    unfold bit; simp only [EReal.coe_eq_zero]
  rw [v.aHi, v.hi, h69]
  unfold k0_pay54 k0_pay52 k0_pay60 k0_pay51 k0_pay55
  rw [ld0, v.caseC, v.jm, v.half, v.rest, sgn_coe, ← EReal.coe_mul, ← EReal.coe_mul, sel_bit,
    eq_nat (by have := (Spec.hi a u).isLt; omega) (by have := Spec.jm_lt (a := a); omega), sel_bit, sel_bit,
    Spec.vHi_eq v.u0 v.u1 v.ok]
  split_ifs <;> rfl

end Vals
end Cert.ReferenceIdeal.Group

end
-- ==== Proof.ReferenceRow.lean ====
/- What the reference computes in one row: the kept values side by side in blocks of 64 (`kept`), a block's largest magnitude
   (`amax`) and scale (`scale`), the codes (`code`), and the four results' entries (`dense_at`, `codes_at`, `scales_at`,
   `packed_at`). -/
module

public import proofs.«01_k».proof.Proof.ReferenceGroup
public import proofs.«01_k».proof.Proof.Block

@[expose] public section

set_option maxRecDepth 16384

noncomputable section

namespace Cert.ReferenceIdeal.Group
open Cert.ReferenceIdeal Cert.ReferenceIdeal.Gen Idealize.ShloMosaic Idealize.ShloMosaic.TcCoe Idealize.ShloMosaic.Tactic Cert.Consts

/-! ## Constants and scalar facts -/

/-- The f32 constant of these bits is minus infinity. -/
theorem f32_FF800000 : Ideal.ofBits .f32 0xFF800000#32 = ⊥ := by simp [Ideal.ofBits, Ideal.ieee]
/-- The f32 constant of these bits is infinity. -/
theorem f32_7F800000 : Ideal.ofBits .f32 0x7F800000#32 = ⊤ := by simp [Ideal.ofBits, Ideal.ieee]
/-- The f32 constant of these bits, as a real. -/
theorem f32_C7600000 : Ideal.ofBits .f32 0xC7600000#32 = ((-57344 : ℝ) : EReal) := by
  simp [Ideal.ofBits, Ideal.ieee, -EReal.coe_mul, -EReal.coe_pow]; try norm_num

/-- The exponent of the `n`-th power that the reference tries. -/
theorem exponent : ∀ n : Fin 254, (IntOp.subi (BitVec.ofNat 32 n.val) 126#32).toInt = (n.val : ℤ) - 126 := by decide +kernel

/-- The power of two at place `n` of the table. -/
theorem power (n : Fin 254) : FloatOps.exp2 (F := Ideal) (φ := .f32) (FloatOps.sitofp FTy.f32 (IntOp.subi (BitVec.ofNat 32 n.val) 126#32))
    = (((2 : ℝ) ^ ((n.val : ℤ) - 126) : ℝ) : EReal) := by
  show Ideal.exp2 ((((IntOp.subi (BitVec.ofNat 32 n.val) 126#32).toInt : ℝ)) : EReal) = _
  rw [exponent, Ideal.exp2_coe]
  congr 1
  exact Real.rpow_intCast 2 _

/-- The smallest power of the table that is large enough is the scale. -/
theorem least {x s : ℝ} (hs : Spec.IsScale x s) (hx : x ≠ 0) :
    Finset.fold min (⊤ : EReal) (fun n : Fin 254 => if x < 57344 * (2 : ℝ) ^ ((n.val : ℤ) - 126) then (((2 : ℝ) ^ ((n.val : ℤ) - 126) : ℝ) : EReal) else ⊤)
      Finset.univ = ((s : ℝ) : EReal) := by
  obtain ⟨h, -⟩ | ⟨-, e, he, he', rfl, hl, hu⟩ := hs
  · exact absurd h hx
  refine le_antisymm ?_ ?_
  · refine (Finset.fold_min_le _).2 (Or.inr ⟨⟨(e + 126).toNat, by omega⟩, Finset.mem_univ _, ?_⟩)
    have : (((e + 126).toNat : ℤ)) - 126 = e := by omega
    simp only [this]
    rw [if_pos hu]
  · refine (Finset.le_fold_min _).2 ⟨le_top, fun n _ => ?_⟩
    split_ifs with h
    · rw [EReal.coe_le_coe_iff]
      have lt1 : (2 : ℝ) ^ e < 2 ^ (((n.val : ℤ) - 126) + 1) := by
        rw [zpow_add₀ (by norm_num)]; norm_num; linarith
      have := (zpow_lt_zpow_iff_right₀ (by norm_num : (1 : ℝ) < 2)).1 lt1
      exact zpow_le_zpow_right₀ (by norm_num) (by omega)
    · exact le_top

/-- One over a real other than zero is its inverse. -/
theorem inv_coe {s : ℝ} (h : s ≠ 0) : Ideal.div 1 ((s : ℝ) : EReal) = ((s⁻¹ : ℝ) : EReal) := by
  unfold Ideal.div
  rw [if_neg (by exact_mod_cast h), one_mul, ← EReal.coe_inv]

/-- Two channel numbers of two groups in a byte. -/
theorem byte : ∀ a b c d : Fin 4,
    BitVec.setWidth 8 (IntOp.ori (IntOp.ori (BitVec.ofNat 32 a.val) (IntOp.shli ArithUnit.vector (BitVec.ofNat 32 b.val) 2#32))
      (IntOp.shli ArithUnit.vector (IntOp.ori (BitVec.ofNat 32 c.val) (IntOp.shli ArithUnit.vector (BitVec.ofNat 32 d.val) 2#32)) 4#32))
    = BitVec.ofNat 8 (a.val + 4 * b.val + 16 * (c.val + 4 * d.val)) := by decide +kernel

/-! ## The operations at an index -/

/-- The largest magnitude of a block, as a fold. -/
theorem amax_fold (x0 : Vec Ideal S10240x16384 .bf16) (x1 : Vec Ideal S10240x4096 .i32) (r : Fin 10240) (b : Fin 128) :
    k0_pay71 x0 x1 (ix2 r b)
      = Finset.fold max (⊥ : EReal) (fun j : Fin 64 => FloatOps.absf (F := Ideal) (φ := .f32) (k0_pay70 x0 x1 (ix3 r b j))) Finset.univ := by
  have e (v31 v41 v42 v76 v102 v103 v112 v121 v135 v137 cst) :
      k0_pay36 (F := Ideal) v31 v41 v42 v76 v102 v103 v112 v121 v135 v137 cst (ix2 r b)
        = Finset.fold max (⊥ : EReal)
            (fun j : Fin 64 => FloatOps.absf (F := Ideal) (φ := .f32) (k0_pay35 v31 v41 v42 v76 v102 v103 v112 v121 v135 v137 cst (ix3 r b j))) Finset.univ := by
    pointwise [k0_pay36]
    rw [f32_FF800000]
  exact e ..

/-- The scale of a block whose largest magnitude is `x`, as a fold. -/
theorem scale_fold (V : FVec Ideal S10240x128 .f32) (r : Fin 10240) (b : Fin 128) (x : ℝ) (hx : V (ix2 r b) = ((x : ℝ) : EReal)) :
    k0_pay37 V (ix2 r b) = if x = 0 then 1 else Finset.fold min (⊤ : EReal)
      (fun n : Fin 254 => if x < 57344 * (2 : ℝ) ^ ((n.val : ℤ) - 126) then (((2 : ℝ) ^ ((n.val : ℤ) - 126) : ℝ) : EReal) else ⊤) Finset.univ := by
  pointwise [k0_pay37]
  simp only [hx, power, f32_7F800000, f32_47600000, ← EReal.coe_mul, EReal.coe_lt_coe_iff, EReal.coe_eq_zero]

/-- A code, from the kept value and the scale. -/
theorem code_clip (B : FVec Ideal S10240x128x64 .f32) (V : FVec Ideal S10240x128 .f32) (r : Fin 10240) (b : Fin 128) (j : Fin 64) (y s : ℝ)
    (hy : B (ix3 r b j) = ((y : ℝ) : EReal)) (hs : k0_pay37 V (ix2 r b) = ((s : ℝ) : EReal)) (h0 : s ≠ 0) :
    k0_pay38 B V (ix3 r b j) = ((min 57344 (max (-57344) (y * s⁻¹)) : ℝ) : EReal) := by
  pointwise [k0_pay38]
  rw [hy, hs, inv_coe h0, ← EReal.coe_mul, f32_C7600000, f32_47600000, max_coe, min_coe]

/-- The codes, joined into rows. -/
theorem codes_join (B : FVec Ideal S10240x128x64 .f32) (V : FVec Ideal S10240x128 .f32) (r : Fin 10240) (c : Fin 8192) :
    k0_pay39 B V (ix2 r c) = k0_pay38 B V (ix3 r ⟨c.val / 64, by omega⟩ ⟨c.val % 64, by omega⟩) := by
  pointwise [k0_pay39]

/-- A byte, from the channels of two groups. -/
theorem byte_join (L H : IVec S10240x4096 32) (r : Fin 10240) (c : Fin 2048) (a b a' b' : Fin 4)
    (h1 : L (ix2 r ⟨c.val * 2, by omega⟩) = BitVec.ofNat 32 a.val) (h2 : H (ix2 r ⟨c.val * 2, by omega⟩) = BitVec.ofNat 32 b.val)
    (h3 : L (ix2 r ⟨c.val * 2 + 1, by omega⟩) = BitVec.ofNat 32 a'.val) (h4 : H (ix2 r ⟨c.val * 2 + 1, by omega⟩) = BitVec.ofNat 32 b'.val) :
    k0_pay40 L H (ix2 r c) = BitVec.ofNat 8 (a.val + 4 * b.val + 16 * (a'.val + 4 * b'.val)) := by
  pointwise [k0_pay40]
  rw [h1, h2, h3, h4, byte]

/-- A dense entry, at channel `k` of group `g`. -/
theorem dense_join (L H : IVec S10240x4096 32) (S : FVec Ideal S10240x128 .f32) (C : FVec Ideal S10240x128x64 .fp8e5m2) (r : Fin 10240)
    (g : Fin 4096) (k : Fin 4) (lo hi : Fin 4) (s c d : ℝ)
    (hl : L (ix2 r g) = BitVec.ofNat 32 lo.val) (hh : H (ix2 r g) = BitVec.ofNat 32 hi.val)
    (hs : S (ix2 r ⟨g.val / 32, by omega⟩) = ((s : ℝ) : EReal))
    (hc : C (ix3 r ⟨g.val / 32, by omega⟩ ⟨g.val % 32 * 2, by omega⟩) = ((c : ℝ) : EReal))
    (hd : C (ix3 r ⟨g.val / 32, by omega⟩ ⟨g.val % 32 * 2 + 1, by omega⟩) = ((d : ℝ) : EReal))
    (y : Fin 16384) (hy : y.val = 4 * g.val + k.val) :
    k0_pay41 L H S C (ix2 r y) = (((if lo = k then c else if hi = k then d else 0) * s : ℝ) : EReal) := by
  have hk := k.isLt
  have yg : y.val / 4 = g.val := by omega
  have hf : (⟨y.val / 4, by omega⟩ : Fin 4096) = g := Fin.ext yg
  have one (k' : ℕ) (e : k.val = k') : Scalar.select (IntOp.cmpi CmpIPredicate.eq (BitVec.ofNat 32 lo.val) (BitVec.ofNat 32 k')) ((c : EReal) * (s : EReal))
        (Scalar.select (IntOp.cmpi CmpIPredicate.eq (BitVec.ofNat 32 hi.val) (BitVec.ofNat 32 k')) ((d : EReal) * (s : EReal)) 0)
      = (((if lo = k then c else if hi = k then d else 0) * s : ℝ) : EReal) := by
    subst e
    rw [eq_nat (by omega) (by omega), eq_nat (by omega) (by omega), sel_bit, sel_bit]
    simp only [Fin.ext_iff]
    split_ifs <;> simp [EReal.coe_mul]
  pointwise [k0_pay41]
  simp only [yg, hf, hl, hh, hs, hc, hd]
  by_cases g0 : y.val % 4 < 1
  · rw [dif_pos g0]; exact one 0 (by omega)
  rw [dif_neg g0]
  by_cases g1 : y.val % 4 - 1 < 1
  · rw [dif_pos g1]; exact one 1 (by omega)
  rw [dif_neg g1]
  by_cases g2 : y.val % 4 - 1 - 1 < 1
  · rw [dif_pos g2]; exact one 2 (by omega)
  rw [dif_neg g2]; exact one 3 (by omega)

/-! ## A row -/

variable {x0 : Vec Ideal S10240x16384 .bf16} {x1 : Vec Ideal S10240x4096 .i32} {r : Fin 10240} {A : ℕ → Fin 4 → ℝ} {u : ℕ → ℝ}
  (v : ∀ g : Fin 4096, Vals x0 x1 r g (A g.val) (u g.val))
include v

/-- The kept value at place `j` of block `b`. -/
theorem kept (b : Fin 128) (j : Fin 64) : k0_pay70 x0 x1 (ix3 r b j)
    = ((if j.val % 2 = 0 then Spec.vLo (A (32 * b.val + j.val / 2)) (u (32 * b.val + j.val / 2))
        else Spec.vHi (A (32 * b.val + j.val / 2)) (u (32 * b.val + j.val / 2)) : ℝ) : EReal) := by
  have hg : b.val * 32 + j.val / 2 < 4096 := by omega
  have e : 32 * b.val + j.val / 2 = b.val * 32 + j.val / 2 := by omega
  have h1 := (v ⟨b.val * 32 + j.val / 2, hg⟩).low_value
  have h2 := (v ⟨b.val * 32 + j.val / 2, hg⟩).high_value
  rw [e]
  by_cases h : j.val % 2 < 1
  · rw [if_pos (by omega : j.val % 2 = 0), ← h1]
    clear h1 h2
    unfold k0_pay70
    pointwise [k0_pay35]
    rw [dif_pos h]
  · rw [if_neg (by omega : ¬ j.val % 2 = 0), ← h2]
    clear h1 h2
    unfold k0_pay70
    pointwise [k0_pay35]
    rw [dif_neg h]

/-- The entries of block `b` are in the domain. -/
theorem ok' (b : Fin 128) : ∀ i < 32, ∀ k, Spec.Ok (A (32 * b.val + i) k) := fun i hi k =>
  (v ⟨32 * b.val + i, by omega⟩).ok k

/-- A kept value's magnitude. -/
theorem abs_kept (b : Fin 128) (j : Fin 64) :
    |(if j.val % 2 = 0 then Spec.vLo (A (32 * b.val + j.val / 2)) (u (32 * b.val + j.val / 2))
        else Spec.vHi (A (32 * b.val + j.val / 2)) (u (32 * b.val + j.val / 2)) : ℝ)| ≤ Spec.big (A (32 * b.val + j.val / 2)) := by
  split_ifs
  · exact Spec.abs_vLo_le
  · exact Spec.abs_vHi_le

/-- A block's largest kept magnitude. -/
theorem amax (b : Fin 128) : k0_pay71 x0 x1 (ix2 r b) = ((Spec.amax A b.val : ℝ) : EReal) := by
  rw [amax_fold]
  simp only [kept v b, absf_coe]
  refine le_antisymm ((Finset.fold_max_le _).2 ⟨bot_le, fun j _ => ?_⟩) ((Finset.le_fold_max _).2 (Or.inr ?_))
  · rw [EReal.coe_le_coe_iff]
    exact (abs_kept v b j).trans (Spec.big_le_amax _ (by omega))
  · obtain ⟨i, hi, e⟩ := Finset.exists_mem_eq_sup' (s := Finset.range 32) ⟨0, by simp⟩ fun i => Spec.big (A (32 * b.val + i))
    have hi' := Finset.mem_range.1 hi
    have w := v ⟨32 * b.val + i, by omega⟩
    have hb := Spec.max_abs w.u0 w.u1 w.ok
    unfold Spec.amax
    rw [e, ← hb]
    rcases max_choice |Spec.vLo (A (32 * b.val + i)) (u (32 * b.val + i))| |Spec.vHi (A (32 * b.val + i)) (u (32 * b.val + i))| with h | h
    · refine ⟨⟨2 * i, by omega⟩, Finset.mem_univ _, ?_⟩
      rw [EReal.coe_le_coe_iff, if_pos (by simp), show 2 * i / 2 = i by omega]
      exact h.le
    · refine ⟨⟨2 * i + 1, by omega⟩, Finset.mem_univ _, ?_⟩
      rw [EReal.coe_le_coe_iff, if_neg (by simp), show (2 * i + 1) / 2 = i by omega]
      exact h.le

/-- A block's scale. -/
theorem scale (b : Fin 128) : k0_pay37 (k0_pay71 x0 x1) (ix2 r b) = ((Spec.scale (Spec.amax A b.val) : ℝ) : EReal) := by
  have hs := Spec.scale_is (ok' v b)
  rw [scale_fold _ _ _ _ (amax v b)]
  by_cases h : Spec.amax A b.val = 0
  · rw [if_pos h]
    rcases hs with ⟨_, h1⟩ | ⟨h0, _⟩
    · rw [h1, EReal.coe_one]
    · exact absurd h h0
  · rw [if_neg h]
    exact least hs h

/-- The scale of a group is that of its block. -/
theorem scl_block (b : Fin 128) (i : ℕ) (hi : i < 32) : Spec.scl A (32 * b.val + i) = Spec.scale (Spec.amax A b.val) := by
  unfold Spec.scl; rw [show (32 * b.val + i) / 32 = b.val by omega]

/-- A code. -/
theorem code (b : Fin 128) (j : Fin 64) : k0_pay38 (k0_pay70 x0 x1) (k0_pay71 x0 x1) (ix3 r b j)
    = ((Spec.code A u (64 * b.val + j.val) : ℝ) : EReal) := by
  have hs := (Spec.scale_is (ok' v b)).pos
  rw [code_clip _ _ _ _ _ _ _ (kept v b j) (scale v b) hs.ne']
  have e1 : (64 * b.val + j.val) / 2 = 32 * b.val + j.val / 2 := by omega
  have e2 : (64 * b.val + j.val) % 2 = j.val % 2 := by omega
  have hk := abs_kept v b j
  unfold Spec.code
  rw [e1, e2, scl_block v b _ (by omega)]
  generalize (if j.val % 2 = 0 then Spec.vLo (A (32 * b.val + j.val / 2)) (u (32 * b.val + j.val / 2))
        else Spec.vHi (A (32 * b.val + j.val / 2)) (u (32 * b.val + j.val / 2)) : ℝ) = y at hk ⊢
  have h1 := Spec.over_scale (ok' v b) (j.val / 2) (by omega) ((le_abs_self y).trans hk)
  have h2 := Spec.over_scale (ok' v b) (j.val / 2) (by omega) ((neg_le_abs y).trans hk)
  rw [max_eq_right (by linarith), min_eq_right h1]

/-! ## The four results' entries -/

/-- The scales' entry. -/
theorem scales_at (b : Fin 128) : k0_pay37 (k0_pay71 x0 x1) (ix2 r b) = ((Spec.scl A (32 * b.val) : ℝ) : EReal) := by
  rw [scale v b, ← scl_block v b 0 (by omega), Nat.add_zero]

/-- The codes' entry. -/
theorem codes_at (c : Fin 8192) : k0_pay39 (k0_pay70 x0 x1) (k0_pay71 x0 x1) (ix2 r c) = ((Spec.code A u c.val : ℝ) : EReal) := by
  rw [codes_join, code v]
  simp only
  rw [Nat.div_add_mod]

/-- The packed channel numbers' entry. -/
theorem packed_at (c : Fin 2048) : k0_pay40 (k0_pay64 x0 x1) (k0_pay65 x0 x1) (ix2 r c) = BitVec.ofNat 8 (Spec.packed A u c.val) := by
  rw [byte_join _ _ _ _ _ _ _ _ (v ⟨c.val * 2, by omega⟩).lo (v ⟨c.val * 2, by omega⟩).hi (v ⟨c.val * 2 + 1, by omega⟩).lo (v ⟨c.val * 2 + 1, by omega⟩).hi]
  unfold Spec.packed Spec.field
  simp only [Nat.mul_comm c.val 2]

/-- The dense result's entry. -/
theorem dense_at (c : Fin 16384) : k0_pay41 (k0_pay64 x0 x1) (k0_pay65 x0 x1) (k0_pay37 (k0_pay71 x0 x1)) (k0_pay38 (k0_pay70 x0 x1) (k0_pay71 x0 x1)) (ix2 r c)
    = ((Spec.dense A u c.val : ℝ) : EReal) := by
  have hg : c.val / 4 < 4096 := by omega
  have w := v ⟨c.val / 4, hg⟩
  rw [dense_join _ _ _ _ r ⟨c.val / 4, hg⟩ (Fin.ofNat 4 c.val) _ _ _ _ _ w.lo w.hi (scale v _) (code v _ _) (code v _ _) c
    (by simp [Fin.ofNat]; omega)]
  unfold Spec.dense Spec.scl
  have c1 : 64 * (c.val / 4 / 32) + c.val / 4 % 32 * 2 = 2 * (c.val / 4) := by omega
  have c2 : 64 * (c.val / 4 / 32) + (c.val / 4 % 32 * 2 + 1) = 2 * (c.val / 4) + 1 := by omega
  simp only [c1, c2]

end Cert.ReferenceIdeal.Group

end
-- ==== Proof.ReferenceArrays.lean ====
/- What the four result arrays hold after the run of the reference: row by row, the row functions of the specification. -/
module

public import proofs.«01_k».proof.Proof.ReferenceRow
public import proofs.«01_k».proof.Proof.Results
public import Idealize.ShloMosaic.Lib.Claim

@[expose] public section

set_option maxRecDepth 16384

noncomputable section

namespace Cert.ReferenceIdeal.Arrays

open Cert.ReferenceIdeal Cert.ReferenceIdeal.Gen Cert.ReferenceIdeal.Group Idealize.ShloMosaic Idealize.ShloMosaic.TcCoe Idealize.SL.Sem
open Idealize.ShloMosaic.Tactic
open Idealize.ShloMosaic.Pipeline (Dat)

variable (m : (ℓ : Loc nD τ sig) → Buf (Elt Ideal) ℓ)

/-- The first argument, its two leading axes joined. -/
def X (c : Dev nD) : Vec Ideal S10240x16384 .bf16 := shapeCast S10240x16384 (m ((c : Thread nD τ).loc main_arg0)) shapeCasts_S4x2560x16384_S10240x16384
/-- The second. -/
def W (c : Dev nD) : Vec Ideal S10240x4096 .i32 := shapeCast S10240x4096 (m ((c : Thread nD τ).loc main_arg1)) shapeCasts_S4x2560x4096_S10240x4096

/-- The first operand is the flattened first argument. -/
theorem V_v0 (c : Dev nD) : V m c main_v0 = X m c := by entry_read; rfl
/-- The second operand is the flattened second argument. -/
theorem V_v1 (c : Dev nD) : V m c main_v1 = W m c := by entry_read; rfl

/-- The first operand's block is the whole of it. -/
theorem idx0 : ∀ t, win0_0.index t = ![0, 0] := (by decide +kernel : ∀ t : Fin grid0.N, _)
/-- The second operand's block is the whole of it. -/
theorem idx1 : ∀ t, win0_1.index t = ![0, 0] := (by decide +kernel : ∀ t : Fin grid0.N, _)
/-- The dense result's block is the whole of it. -/
theorem idx2 : ∀ t, win0_2.index t = ![0, 0] := (by decide +kernel : ∀ t : Fin grid0.N, _)
/-- The codes' block is the whole of it. -/
theorem idx3 : ∀ t, win0_3.index t = ![0, 0] := (by decide +kernel : ∀ t : Fin grid0.N, _)
/-- The scales' block is the whole of it. -/
theorem idx4 : ∀ t, win0_4.index t = ![0, 0] := (by decide +kernel : ∀ t : Fin grid0.N, _)
/-- The packed channel numbers' block is the whole of it. -/
theorem idx5 : ∀ t, win0_5.index t = ![0, 0] := (by decide +kernel : ∀ t : Fin grid0.N, _)

variable {m} {A : Fin 10240 → ℕ → Fin 4 → ℝ} {U : Fin 10240 → ℕ → ℝ}

/-- The groups that the grid point's blocks hold. -/
theorem vals (c : Dev nD) (h : Spec.Rows (X m c) (W m c) A U) (t : Fin cfg0.N) (r : Fin 10240) (g : Fin 4096) :
    Vals (iblk m c 0 t) (iblk m c 1 t) r g (A r g.val) (U r g.val) := by
  refine ⟨fun k => ?_, ?_, fun k => h.ok r g k⟩
  · rw [← h.x]
    blk_simp [iblk, idx0 t]
    rw [V_v0]
    congr 1
    blk_ext [idx0 t]
  · rw [h.w]
    blk_simp [iblk, idx1 t]
    rw [V_v1]
    congr 2
    blk_ext [idx1 t]

/-- What the body leaves of the dense result. -/
theorem out2 (c : Dev nD) (h : Spec.Rows (X m c) (W m c) A U) (t : Fin cfg0.N) :
    out0_2 (iblk m c 0 t) (iblk m c 1 t) = Spec.denseArr A U := by
  unfold out0_2
  rw [View.canon_cons_unit_lit]
  · funext y
    rw [eq_ix2 y]
    exact dense_at (fun g => vals c h t (y 0) g) (y 1)
  · decide

/-- The dense result's array after the run. -/
theorem arr2 (c : Dev nD) (h : Spec.Rows (X m c) (W m c) A U) : (dats m 0 c).arrAt 2 cfg0.N = Spec.denseArr A U := by
  refine (dats m 0 c).arrAt_eq_of_covers 2 (Spec.denseArr A U) (by decide +kernel) fun t _ y => ?_
  have e : (win0_2.blk t).view.emb y = y := by
    blk_ext [idx2 t]
  blk_simp
  rw [after0_2, e, out2 c h t]

/-- What the body leaves of the codes. -/
theorem out3 (c : Dev nD) (h : Spec.Rows (X m c) (W m c) A U) (t : Fin cfg0.N) :
    out0_3 (iblk m c 0 t) (iblk m c 1 t) = Spec.codesArr A U := by
  unfold out0_3
  rw [View.canon_cons_unit_lit]
  · funext y
    rw [eq_ix2 y]
    exact codes_at (fun g => vals c h t (y 0) g) (y 1)
  · decide

/-- The codes' array after the run. -/
theorem arr3 (c : Dev nD) (h : Spec.Rows (X m c) (W m c) A U) : (dats m 0 c).arrAt 3 cfg0.N = Spec.codesArr A U := by
  refine (dats m 0 c).arrAt_eq_of_covers 3 (Spec.codesArr A U) (by decide +kernel) fun t _ y => ?_
  have e : (win0_3.blk t).view.emb y = y := by
    blk_ext [idx3 t]
  blk_simp
  rw [after0_3, e, out3 c h t]

/-- What the body leaves of the scales. -/
theorem out4 (c : Dev nD) (h : Spec.Rows (X m c) (W m c) A U) (t : Fin cfg0.N) :
    out0_4 (iblk m c 0 t) (iblk m c 1 t) = Spec.scalesArr A := by
  unfold out0_4
  rw [View.canon_cons_unit_lit]
  · funext y
    rw [eq_ix2 y]
    exact scales_at (fun g => vals c h t (y 0) g) (y 1)
  · decide

/-- The scales' array after the run. -/
theorem arr4 (c : Dev nD) (h : Spec.Rows (X m c) (W m c) A U) : (dats m 0 c).arrAt 4 cfg0.N = Spec.scalesArr A := by
  refine (dats m 0 c).arrAt_eq_of_covers 4 (Spec.scalesArr A) (by decide +kernel) fun t _ y => ?_
  have e : (win0_4.blk t).view.emb y = y := by
    blk_ext [idx4 t]
  blk_simp
  rw [after0_4, e, out4 c h t]

/-- What the body leaves of the packed channel numbers. -/
theorem out5 (c : Dev nD) (h : Spec.Rows (X m c) (W m c) A U) (t : Fin cfg0.N) :
    out0_5 (iblk m c 0 t) (iblk m c 1 t) = Spec.packedArr A U := by
  unfold out0_5
  rw [View.canon_cons_unit_lit]
  · funext y
    rw [eq_ix2 y]
    exact packed_at (fun g => vals c h t (y 0) g) (y 1)
  · decide

/-- The packed channel numbers' array after the run. -/
theorem arr5 (c : Dev nD) (h : Spec.Rows (X m c) (W m c) A U) : (dats m 0 c).arrAt 5 cfg0.N = Spec.packedArr A U := by
  refine (dats m 0 c).arrAt_eq_of_covers 5 (Spec.packedArr A U) (by decide +kernel) fun t _ y => ?_
  have e : (win0_5.blk t).view.emb y = y := by
    blk_ext [idx5 t]
  blk_simp
  rw [after0_5, e, out5 c h t]

end Cert.ReferenceIdeal.Arrays

end
-- ==== Proof.Domain.lean ====
/- What the precondition says of the arguments: every entry is a number of moderate size or zero (`entry`), so the rows of the
   kernel's and of the reference's operands stand for the same numbers (`rows`). -/
module

public import proofs.«01_k».proof.Proof.Results
public import proofs.«01_k».proof.Proof.Consts
public import proofs.«01_k».proof.Proof.Gen.Pre_in_range
public import Idealize.ShloMosaic.Lib.ReduceAll

@[expose] public section

noncomputable section

namespace Cert.Domain
open Idealize.ShloMosaic Idealize.ShloMosaic.Tactic Cert.Consts Cert.Pre_in_range

attribute [local instance] Cert.Pre_in_range.Gen.facts

/-- A one-bit "or" of a bit with an "and" of two others is 1 only if the first is, or both others are. -/
theorem bits_or (p q r : Bool) (h : IntOp.ori (BitVec.ofBool p) (IntOp.andi (BitVec.ofBool q) (BitVec.ofBool r)) = 1#1) :
    p = true ∨ (q = true ∧ r = true) := by
  revert h; cases p <;> cases q <;> cases r <;> decide

/-- An entry's test, read. -/
theorem tested (x : FVec Ideal S4x2560x16384 .bf16) (i : S4x2560x16384.Idx)
    (h : (ori (cmpf .oeq (Host.absf x) (broadcastInDim S4x2560x16384 ![] Facts.bcast_S_S4x2560x16384 (constant S_ .bf16 0x0000#16)))
      (andi (cmpf .oge (Host.absf x) (broadcastInDim S4x2560x16384 ![] Facts.bcast_S_S4x2560x16384 (constant S_ .bf16 0x0D80#16)))
        (cmpf .ole (Host.absf x) (broadcastInDim S4x2560x16384 ![] Facts.bcast_S_S4x2560x16384 (constant S_ .bf16 0x7180#16))))) i = 1#1) :
    FloatOps.absf (F := Ideal) (φ := .bf16) (x i) = (0 : EReal)
      ∨ (((2 : ℝ) ^ (-100 : ℤ) : ℝ) : EReal) ≤ FloatOps.absf (F := Ideal) (φ := .bf16) (x i)
        ∧ FloatOps.absf (F := Ideal) (φ := .bf16) (x i) ≤ (((2 : ℝ) ^ (100 : ℤ) : ℝ) : EReal) := by
  have e (b : BitVec 1) (hb : b = 1#1) (e : b = IntOp.ori (BitVec.ofBool (decide (FloatOps.absf (F := Ideal) (φ := .bf16) (x i) = (0 : EReal))))
      (IntOp.andi (BitVec.ofBool (decide (Ideal.ofBits FTy.bf16 0x0D80#16 ≤ FloatOps.absf (F := Ideal) (φ := .bf16) (x i))))
        (BitVec.ofBool (decide (FloatOps.absf (F := Ideal) (φ := .bf16) (x i) ≤ Ideal.ofBits FTy.bf16 0x7180#16))))) := bits_or _ _ _ (e ▸ hb)
  have h' := e _ h (by pointwise)
  rw [bf16_0D80, bf16_7180] at h'
  simpa only [decide_eq_true_eq] using h'

/-- A number of magnitude zero or between the bounds is a real number that the specification admits. -/
theorem admitted (y : EReal) (h : FloatOps.absf (F := Ideal) (φ := .bf16) y = (0 : EReal)
      ∨ (((2 : ℝ) ^ (-100 : ℤ) : ℝ) : EReal) ≤ FloatOps.absf (F := Ideal) (φ := .bf16) y
        ∧ FloatOps.absf (F := Ideal) (φ := .bf16) y ≤ (((2 : ℝ) ^ (100 : ℤ) : ℝ) : EReal)) :
    y = ((y.toReal : ℝ) : EReal) ∧ Spec.Ok y.toReal := by
  have ht : FloatOps.absf (F := Ideal) (φ := .bf16) (⊤ : EReal) = (⊤ : EReal) := by
    show max (⊤ : EReal) (-⊤) = ⊤
    simp
  have hb : FloatOps.absf (F := Ideal) (φ := .bf16) (⊥ : EReal) = (⊤ : EReal) := by
    show max (⊥ : EReal) (-⊥) = ⊤
    simp
  have big : ¬ ((⊤ : EReal) = 0 ∨ (((2 : ℝ) ^ (-100 : ℤ) : ℝ) : EReal) ≤ ⊤ ∧ (⊤ : EReal) ≤ (((2 : ℝ) ^ (100 : ℤ) : ℝ) : EReal)) := by
    rintro (h | ⟨_, h⟩)
    · exact EReal.top_ne_zero h
    · exact absurd (top_le_iff.1 h) (EReal.coe_ne_top _)
  induction y using EReal.rec with
  | bot => rw [hb] at h; exact absurd h big
  | top => rw [ht] at h; exact absurd h big
  | coe a =>
    rw [EReal.toReal_coe]
    refine ⟨rfl, ?_⟩
    rw [absf_coe] at h
    simp only [EReal.coe_eq_zero, EReal.coe_le_coe_iff, abs_eq_zero] at h
    exact h

/-- Every entry of the first argument is a real number that the specification admits. -/
theorem entry (x : FVec Ideal S4x2560x16384 .bf16) (w : IVec S4x2560x4096 32) (h : Cert.Pre_in_range.fn (F := Ideal) x w = fun _ => 1#1)
    (i : S4x2560x16384.Idx) : x i = (((x i).toReal : ℝ) : EReal) ∧ Spec.Ok (x i).toReal := by
  haveI : Subsingleton S_.Idx := ⟨fun a b => funext fun k => k.elim0⟩
  exact admitted _ (tested x i (Host.reduce_andi_all _ _ _ _ (Shape.Idx.first Facts.h_S_) (congrFun h _) i))

/-- The numbers that a row's groups hold, read off the operand. -/
def groups (X : Vec Ideal ⟨2, ![10240, 16384]⟩ .bf16) (r : Fin 10240) (g : ℕ) (k : Fin 4) : ℝ :=
  if h : g < 4096 then (X (ix2 r ⟨4 * g + k.val, by omega⟩)).toReal else 0
/-- The random numbers of a row's groups. -/
def randoms (W : Vec Ideal ⟨2, ![10240, 4096]⟩ .i32) (r : Fin 10240) (g : ℕ) : ℝ :=
  if h : g < 4096 then Spec.uOf (W (ix2 r ⟨g, h⟩)) else 0

/-- Under the precondition the operands stand for these numbers. -/
theorem rows (x : FVec Ideal S4x2560x16384 .bf16) (w : IVec S4x2560x4096 32) (h : Cert.Pre_in_range.fn (F := Ideal) x w = fun _ => 1#1)
    (hc : S4x2560x16384.ShapeCasts ⟨2, ![10240, 16384]⟩) (W : Vec Ideal ⟨2, ![10240, 4096]⟩ .i32) :
    Spec.Rows (shapeCast ⟨2, ![10240, 16384]⟩ x hc) W (groups (shapeCast ⟨2, ![10240, 16384]⟩ x hc)) (randoms W) := by
  refine ⟨fun r g k => ?_, fun r g => ?_, fun r g k => ?_⟩
  · unfold groups
    rw [dif_pos g.isLt]
    exact (entry x w h _).1
  · unfold randoms
    rw [dif_pos g.isLt]
  · unfold groups
    rw [dif_pos g.isLt]
    exact (entry x w h _).2

end Cert.Domain

end
-- ==== Proof.Equation.lean ====
/- The equation: under the precondition the idealized kernel and the reference, run from memories that agree on the two
   arguments, both end with the specification's four arrays as their results (`algebraic`). -/
module

public import proofs.«01_k».proof.Defs
public import proofs.«01_k».proof.Proof.KernelArrays
public import proofs.«01_k».proof.Proof.ReferenceArrays
public import proofs.«01_k».proof.Proof.Domain
public import proofs.«01_k».proof.Proof.Gen.ReferenceIdeal.Value

@[expose] public section

noncomputable section

namespace Cert.Proof

open Idealize.ShloMosaic Idealize.SL.Sem

/-- The kernel's four results are the specification's arrays, from any memory whose operands stand for the given numbers. -/
theorem kernel_run (m : (ℓ : Loc Cert.KernelIdeal.nD Cert.KernelIdeal.τ Cert.KernelIdeal.sig) → Buf (Elt Ideal) ℓ) (g : Dev Cert.KernelIdeal.nD → PrngReg)
    (A : Dev Cert.KernelIdeal.nD → Fin 10240 → ℕ → Fin 4 → ℝ) (U : Dev Cert.KernelIdeal.nD → Fin 10240 → ℕ → ℝ)
    (h : ∀ c, Spec.Rows (Cert.KernelIdeal.Value.X m c) (Cert.KernelIdeal.Value.W m c) (A c) (U c)) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v15_0) = Spec.denseArr (A c) (U c)
      ∧ r.2.mem ((c.tc : Thread Cert.KernelIdeal.nD Cert.KernelIdeal.τ).loc Cert.KernelIdeal.main_v15_1) = Spec.codesArr (A c) (U c)
      ∧ r.2.mem ((c.tc : Thread Cert.KernelIdeal.nD Cert.KernelIdeal.τ).loc Cert.KernelIdeal.main_v15_2) = Spec.scalesArr (A c)
      ∧ r.2.mem ((c.tc : Thread Cert.KernelIdeal.nD Cert.KernelIdeal.τ).loc Cert.KernelIdeal.main_v15_3) = Spec.packedArr (A c) (U c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run _ _ _).mono (fun r hr c => by
    obtain ⟨h0, h1, h2, h3, k0, k1⟩ := hr c
    exact ⟨h0.trans (Cert.KernelIdeal.Value.arr4 c (h c)), h1.trans (Cert.KernelIdeal.Value.arr5 c (h c)),
      h2.trans (Cert.KernelIdeal.Value.arr6 c (h c)), h3.trans (Cert.KernelIdeal.Value.arr7 c (h c)), k0, k1⟩)
    (Cert.KernelIdeal.Value.run_blocks m g)

/-- The reference's four results are the specification's arrays, from any memory whose operands stand for the given numbers. -/
theorem reference_run (m : (ℓ : Loc Cert.ReferenceIdeal.nD Cert.ReferenceIdeal.τ Cert.ReferenceIdeal.sig) → Buf (Elt Ideal) ℓ) (g : Dev Cert.ReferenceIdeal.nD → PrngReg)
    (A : Dev Cert.ReferenceIdeal.nD → Fin 10240 → ℕ → Fin 4 → ℝ) (U : Dev Cert.ReferenceIdeal.nD → Fin 10240 → ℕ → ℝ)
    (h : ∀ c, Spec.Rows (Cert.ReferenceIdeal.Arrays.X m c) (Cert.ReferenceIdeal.Arrays.W m c) (A c) (U c)) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v2_0) = Spec.denseArr (A c) (U c)
      ∧ r.2.mem ((c.tc : Thread Cert.ReferenceIdeal.nD Cert.ReferenceIdeal.τ).loc Cert.ReferenceIdeal.main_v2_1) = Spec.codesArr (A c) (U c)
      ∧ r.2.mem ((c.tc : Thread Cert.ReferenceIdeal.nD Cert.ReferenceIdeal.τ).loc Cert.ReferenceIdeal.main_v2_2) = Spec.scalesArr (A c)
      ∧ r.2.mem ((c.tc : Thread Cert.ReferenceIdeal.nD Cert.ReferenceIdeal.τ).loc Cert.ReferenceIdeal.main_v2_3) = Spec.packedArr (A c) (U c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run _ _ _).mono (fun r hr c => by
    obtain ⟨h0, h1, h2, h3, k0, k1⟩ := hr c
    exact ⟨h0.trans (Cert.ReferenceIdeal.Arrays.arr2 c (h c)), h1.trans (Cert.ReferenceIdeal.Arrays.arr3 c (h c)),
      h2.trans (Cert.ReferenceIdeal.Arrays.arr4 c (h c)), h3.trans (Cert.ReferenceIdeal.Arrays.arr5 c (h c)), k0, k1⟩)
    (Cert.ReferenceIdeal.Value.run_blocks m g)

/-- Kernel and reference compute equal results. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hp hargs
  have hk : ∀ c, Spec.Rows (Cert.KernelIdeal.Value.X m c) (Cert.KernelIdeal.Value.W m c)
      (Domain.groups (Cert.KernelIdeal.Value.X m c)) (Domain.randoms (Cert.KernelIdeal.Value.W m c)) := fun c => Domain.rows _ _ (hp c) _ _
  have hX : ∀ c, Cert.ReferenceIdeal.Arrays.X m' c = Cert.KernelIdeal.Value.X m c := fun c => by
    unfold Cert.ReferenceIdeal.Arrays.X Cert.KernelIdeal.Value.X
    exact congrArg (fun x => shapeCast _ x Cert.KernelIdeal.Gen.shapeCasts_S4x2560x16384_S10240x16384) (hargs c).1
  have hW : ∀ c, Cert.ReferenceIdeal.Arrays.W m' c = Cert.KernelIdeal.Value.W m c := fun c => by
    unfold Cert.ReferenceIdeal.Arrays.W Cert.KernelIdeal.Value.W
    exact congrArg (fun x => shapeCast _ x Cert.KernelIdeal.Gen.shapeCasts_S4x2560x4096_S10240x4096) (hargs c).2
  exact ⟨_, _, _, _, kernel_run m g _ _ hk, reference_run m' g' _ _ fun c => by rw [hX c, hW c]; exact hk c⟩

end Cert.Proof

end
-- ==== Proof.lean ====
module

public import proofs.«01_k».proof.Defs
public import proofs.«01_k».proof.Proof.Gen.Kernel
public import proofs.«01_k».proof.Proof.PrintedFrame
public import proofs.«01_k».proof.Proof.Gen.KernelIdeal
public import proofs.«01_k».proof.Proof.KernelFrame
public import proofs.«01_k».proof.Proof.Gen.ReferenceIdeal
public import proofs.«01_k».proof.Proof.Gen.ReferenceIdeal.Frame
public import proofs.«01_k».proof.Proof.Gen.Pre_in_range
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel's frame: it runs to its end, keeps its arguments, and leaves every semaphore at zero. -/
theorem frame_Kernel : Cert.quiescent_Kernel (hKernel := Cert.Kernel.Gen.facts) :=
  fun m g _ => Cert.Kernel.Gen.frame m g

/-- The idealized kernel's frame. -/
theorem frame_KernelIdeal : Cert.quiescent_KernelIdeal (hKernelIdeal := Cert.KernelIdeal.Gen.facts) :=
  fun m g _ => Cert.KernelIdeal.Gen.frame m g

/-- The idealized kernel's frame, from the memories of the value claim. -/
theorem frame_KernelIdeal_pre : Cert.quiescent_KernelIdeal_pre_in_range (hKernelIdeal := Cert.KernelIdeal.Gen.facts)
    (hPre_in_range := Cert.Pre_in_range.Gen.facts) :=
  fun m g _ => Cert.KernelIdeal.Gen.frame m g

/-- The reference's frame. -/
theorem frame_ReferenceIdeal : Cert.quiescent_ReferenceIdeal (hReferenceIdeal := Cert.ReferenceIdeal.Gen.facts) :=
  fun m g _ => Cert.ReferenceIdeal.Gen.frame m g

/-- The reference's frame, from the memories of the value claim. -/
theorem frame_ReferenceIdeal_pre : Cert.quiescent_ReferenceIdeal_pre_in_range (hReferenceIdeal := Cert.ReferenceIdeal.Gen.facts)
    (hPre_in_range := Cert.Pre_in_range.Gen.facts) :=
  fun m g _ => Cert.ReferenceIdeal.Gen.frame m g

theorem claim : Cert.Claim := ⟨Cert.Kernel.Gen.facts, Cert.KernelIdeal.Gen.facts, Cert.ReferenceIdeal.Gen.facts, Cert.Pre_in_range.Gen.facts,
  frame_Kernel, frame_KernelIdeal, frame_KernelIdeal_pre, frame_ReferenceIdeal, frame_ReferenceIdeal_pre, trivial, algebraic⟩

end Cert.Proof

end
